-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x3 : Shape := ⟨3, ![4, 2048, 3]⟩
abbrev S4x8192x3 : Shape := ⟨3, ![4, 8192, 3]⟩
abbrev S_ : Shape := ⟨0, ![]⟩

class Facts : Prop where
  bcast_S_S4x2048x3 : S_.BroadcastsInDim S4x2048x3 (![] : Fin 0 → Fin S4x2048x3.rank)
  bcast_S_S4x8192x3 : S_.BroadcastsInDim S4x8192x3 (![] : Fin 0 → Fin S4x8192x3.rank)

variable [Facts]

def fn {F : FTy → Type} [FloatOps F] (main_arg0 : FVec F S4x2048x3 .f32) (main_arg1 : FVec F S4x8192x3 .f32) (main_arg2 : FVec F S4x8192x3 .f32) : IVec S4x2048x3 1 × IVec S4x8192x3 1 × IVec S4x8192x3 1 :=
  let main_v0 : FVec F S4x2048x3 .f32 := Host.absf main_arg0
  let main_cst : FVec F S_ .f32 := constant S_ .f32 0x7F800000#32
  let main_v1 : FVec F S4x2048x3 .f32 := broadcastInDim S4x2048x3 ![] bcast_S_S4x2048x3 main_cst
  let main_v2 : IVec S4x2048x3 1 := cmpf .olt main_v0 main_v1
  let main_v3 : FVec F S4x8192x3 .f32 := Host.absf main_arg1
  let main_cst_0 : FVec F S_ .f32 := constant S_ .f32 0x7F800000#32
  let main_v4 : FVec F S4x8192x3 .f32 := broadcastInDim S4x8192x3 ![] bcast_S_S4x8192x3 main_cst_0
  let main_v5 : IVec S4x8192x3 1 := cmpf .olt main_v3 main_v4
  let main_v6 : FVec F S4x8192x3 .f32 := Host.absf main_arg2
  let main_cst_1 : FVec F S_ .f32 := constant S_ .f32 0x7F800000#32
  let main_v7 : FVec F S4x8192x3 .f32 := broadcastInDim S4x8192x3 ![] bcast_S_S4x8192x3 main_cst_1
  let main_v8 : IVec S4x8192x3 1 := cmpf .olt main_v6 main_v7
  (main_v2, main_v5, main_v8)
-- ==== Kernel.lean ====
abbrev S4x2048x3 : Shape := ⟨3, ![4, 2048, 3]⟩
abbrev S4x8192x3 : Shape := ⟨3, ![4, 8192, 3]⟩
abbrev S4x3x2048 : Shape := ⟨3, ![4, 3, 2048]⟩
abbrev S4x3x8192 : Shape := ⟨3, ![4, 3, 8192]⟩
abbrev S4x4x1x512 : Shape := ⟨4, ![4, 4, 1, 512]⟩
abbrev S1x3x512 : Shape := ⟨3, ![1, 3, 512]⟩
abbrev S1x8192x3 : Shape := ⟨3, ![1, 8192, 3]⟩
abbrev S1x3x8192 : Shape := ⟨3, ![1, 3, 8192]⟩
abbrev S1x1x1x512 : Shape := ⟨4, ![1, 1, 1, 512]⟩
abbrev S3x512 : Shape := ⟨2, ![3, 512]⟩
abbrev S8192x3 : Shape := ⟨2, ![8192, 3]⟩
abbrev S3x8192 : Shape := ⟨2, ![3, 8192]⟩
abbrev S512 : Shape := ⟨1, ![512]⟩
abbrev S1x512 : Shape := ⟨2, ![1, 512]⟩
abbrev S8192 : Shape := ⟨1, ![8192]⟩
abbrev S8192x1 : Shape := ⟨2, ![8192, 1]⟩
abbrev S8192x512 : Shape := ⟨2, ![8192, 512]⟩
abbrev S1x8192 : Shape := ⟨2, ![1, 8192]⟩
abbrev S2x8192 : Shape := ⟨2, ![2, 8192]⟩
abbrev S21x8192 : Shape := ⟨2, ![21, 8192]⟩
abbrev S21x512 : Shape := ⟨2, ![21, 512]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x3, .f32⟩
  | .hbm, ⟨1, _⟩ => ⟨S4x8192x3, .f32⟩
  | .hbm, ⟨2, _⟩ => ⟨S4x8192x3, .f32⟩
  | .hbm, ⟨3, _⟩ => ⟨S4x3x2048, .f32⟩
  | .hbm, ⟨4, _⟩ => ⟨S4x3x8192, .f32⟩
  | .hbm, ⟨5, _⟩ => ⟨S4x3x8192, .f32⟩
  | .hbm, ⟨6, _⟩ => ⟨S4x4x1x512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x3x512, .f32⟩
  | .local _ .vmem, ⟨1, _⟩ => ⟨S1x3x512, .f32⟩
  | .local _ .vmem, ⟨2, _⟩ => ⟨S1x8192x3, .f32⟩
  | .local _ .vmem, ⟨3, _⟩ => ⟨S1x8192x3, .f32⟩
  | .local _ .vmem, ⟨4, _⟩ => ⟨S1x3x8192, .f32⟩
  | .local _ .vmem, ⟨5, _⟩ => ⟨S1x3x8192, .f32⟩
  | .local _ .vmem, ⟨6, _⟩ => ⟨S1x3x8192, .f32⟩
  | .local _ .vmem, ⟨7, _⟩ => ⟨S1x3x8192, .f32⟩
  | .local _ .vmem, ⟨8, _⟩ => ⟨S1x1x1x512, .f32⟩
  | .local _ .vmem, ⟨9, _⟩ => ⟨S1x1x1x512, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x3 : Shape := ⟨3, ![4, 2048, 3]⟩
abbrev S4x8192x3 : Shape := ⟨3, ![4, 8192, 3]⟩
abbrev S_ : Shape := ⟨0, ![]⟩
abbrev S4x2048 : Shape := ⟨2, ![4, 2048]⟩
abbrev S4x2048x1 : Shape := ⟨3, ![4, 2048, 1]⟩
abbrev S4x8192 : Shape := ⟨2, ![4, 8192]⟩
abbrev S4x1x8192 : Shape := ⟨3, ![4, 1, 8192]⟩
abbrev S4x2048x8192 : Shape := ⟨3, ![4, 2048, 8192]⟩
abbrev S4x2048x16 : Shape := ⟨3, ![4, 2048, 16]⟩
abbrev S4x2048x16x1 : Shape := ⟨4, ![4, 2048, 16, 1]⟩
abbrev S4x2048x16x3 : Shape := ⟨4, ![4, 2048, 16, 3]⟩
abbrev S4x2048x1x3 : Shape := ⟨4, ![4, 2048, 1, 3]⟩
abbrev S4x2048x3x16 : Shape := ⟨4, ![4, 2048, 3, 16]⟩
abbrev S4x2048x3x3 : Shape := ⟨4, ![4, 2048, 3, 3]⟩
abbrev S3x3 : Shape := ⟨2, ![3, 3]⟩
abbrev S1x1x3x3 : Shape := ⟨4, ![1, 1, 3, 3]⟩
abbrev S4x2048x1x1 : Shape := ⟨4, ![4, 2048, 1, 1]⟩

abbrev nBuf : Space → Nat
  | .hbm => 174
  | .vmem => 0
  | .smem => 0
  | _ => 0

abbrev hbmTy0_0 (i : Nat) : BufTy := match i % 128 with
  | 0 => ⟨S4x2048x3, .f32⟩
  | 1 => ⟨S4x8192x3, .f32⟩
  | 2 => ⟨S4x8192x3, .f32⟩
  | 3 => ⟨S4x2048x3, .f32⟩
  | 4 => ⟨S_, .f32⟩
  | 5 => ⟨S4x2048, .f32⟩
  | 6 => ⟨S4x2048x1, .f32⟩
  | 7 => ⟨S4x8192x3, .f32⟩
  | 8 => ⟨S_, .f32⟩
  | 9 => ⟨S4x8192, .f32⟩
  | 10 => ⟨S4x1x8192, .f32⟩
  | 11 => ⟨S4x2048x8192, .f32⟩
  | 12 => ⟨S4x2048x8192, .f32⟩
  | 13 => ⟨S4x2048x8192, .f32⟩
  | 14 => ⟨S4x2048x8192, .f32⟩
  | 15 => ⟨S_, .f32⟩
  | 16 => ⟨S4x2048x8192, .f32⟩
  | 17 => ⟨S4x2048x8192, .f32⟩
  | 18 => ⟨S4x2048x8192, .f32⟩
  | 19 => ⟨S_, .f32⟩
  | 20 => ⟨S4x2048x8192, .f32⟩
  | 21 => ⟨S4x2048x8192, .f32⟩
  | 22 => ⟨S4x2048x8192, .f32⟩
  | 23 => ⟨S4x2048x8192, .f32⟩
  | 24 => ⟨S4x2048x16, .f32⟩
  | 25 => ⟨S4x2048x16, .i32⟩
  | 26 => ⟨S_, .f32⟩
  | 27 => ⟨S4x2048x8192, .f32⟩
  | 28 => ⟨S4x2048x8192, .f32⟩
  | 29 => ⟨S4x2048x8192, .i32⟩
  | 30 => ⟨S_, .f32⟩
  | 31 => ⟨S_, .i32⟩
  | 32 => ⟨S4x2048, .f32⟩
  | 33 => ⟨S4x2048, .i32⟩
  | 34 => ⟨S_, .i32⟩
  | 35 => ⟨S4x2048x16, .i32⟩
  | 36 => ⟨S4x2048x16, .i1⟩
  | 37 => ⟨S_, .i32⟩
  | 38 => ⟨S4x2048x16, .i32⟩
  | 39 => ⟨S4x2048x16, .i32⟩
  | 40 => ⟨S4x2048x16, .i32⟩
  | 41 => ⟨S4x2048x16x1, .i32⟩
  | 42 => ⟨S4x2048x16x3, .f32⟩
  | 43 => ⟨S_, .i32⟩
  | 44 => ⟨S4x2048x16, .i32⟩
  | 45 => ⟨S4x2048x16, .i1⟩
  | 46 => ⟨S_, .i32⟩
  | 47 => ⟨S4x2048x16, .i32⟩
  | 48 => ⟨S4x2048x16, .i32⟩
  | 49 => ⟨S4x2048x16, .i32⟩
  | 50 => ⟨S4x2048x16x1, .i32⟩
  | 51 => ⟨S4x2048x16x3, .f32⟩
  | 52 => ⟨S4x2048x1x3, .f32⟩
  | 53 => ⟨S4x2048x16x3, .f32⟩
  | 54 => ⟨S4x2048x16x3, .f32⟩
  | 55 => ⟨S_, .i32⟩
  | 56 => ⟨S4x2048, .i32⟩
  | 57 => ⟨S4x2048, .i1⟩
  | 58 => ⟨S_, .i32⟩
  | 59 => ⟨S4x2048, .i32⟩
  | 60 => ⟨S4x2048, .i32⟩
  | 61 => ⟨S4x2048, .i32⟩
  | 62 => ⟨S4x2048x1, .i32⟩
  | 63 => ⟨S4x2048x3, .f32⟩
  | 64 => ⟨S4x2048x1x3, .f32⟩
  | 65 => ⟨S4x2048x16x3, .f32⟩
  | 66 => ⟨S4x2048x16x3, .f32⟩
  | 67 => ⟨S4x2048x3x16, .f32⟩
  | 68 => ⟨S4x2048x3x3, .f32⟩
  | 69 => ⟨S4x2048x3x3, .f32⟩
  | 70 => ⟨S3x3, .i32⟩
  | 71 => ⟨S3x3, .i32⟩
  | 72 => ⟨S_, .i32⟩
  | 73 => ⟨S3x3, .i32⟩
  | 74 => ⟨S3x3, .i32⟩
  | 75 => ⟨S3x3, .i1⟩
  | 76 => ⟨S3x3, .f32⟩
  | 77 => ⟨S1x1x3x3, .f32⟩
  | 78 => ⟨S4x2048x3x3, .f32⟩
  | 79 => ⟨S_, .f32⟩
  | 80 => ⟨S4x2048, .f32⟩
  | 81 => ⟨S4x2048x1x1, .f32⟩
  | 82 => ⟨S_, .f32⟩
  | 83 => ⟨S4x2048x1x1, .f32⟩
  | 84 => ⟨S4x2048x1x1, .f32⟩
  | 85 => ⟨S_, .f32⟩
  | 86 => ⟨S4x2048x1x1, .f32⟩
  | 87 => ⟨S4x2048x1x1, .f32⟩
  | 88 => ⟨S_, .f32⟩
  | 89 => ⟨S4x2048x1x1, .f32⟩
  | 90 => ⟨S4x2048x1x1, .f32⟩
  | 91 => ⟨S4x2048x3x3, .f32⟩
  | 92 => ⟨S4x2048x3x3, .f32⟩
  | 93 => ⟨S4x2048x3x3, .f32⟩
  | 94 => ⟨S4x2048x3x3, .f32⟩
  | 95 => ⟨S4x2048x1x1, .f32⟩
  | 96 => ⟨S4x2048x1, .f32⟩
  | 97 => ⟨S4x2048x1x1, .f32⟩
  | 98 => ⟨S4x2048x1, .f32⟩
  | 99 => ⟨S4x2048x1x1, .f32⟩
  | 100 => ⟨S4x2048x1, .f32⟩
  | 101 => ⟨S4x2048x1x1, .f32⟩
  | 102 => ⟨S4x2048x1, .f32⟩
  | 103 => ⟨S4x2048x1x1, .f32⟩
  | 104 => ⟨S4x2048x1, .f32⟩
  | 105 => ⟨S4x2048x1x1, .f32⟩
  | 106 => ⟨S4x2048x1, .f32⟩
  | 107 => ⟨S4x2048x1x1, .f32⟩
  | 108 => ⟨S4x2048x1, .f32⟩
  | 109 => ⟨S4x2048x1x1, .f32⟩
  | 110 => ⟨S4x2048x1, .f32⟩
  | 111 => ⟨S4x2048x1x1, .f32⟩
  | 112 => ⟨S4x2048x1, .f32⟩
  | 113 => ⟨S4x2048x1x3, .f32⟩
  | 114 => ⟨S4x2048x3, .f32⟩
  | 115 => ⟨S4x2048x1x3, .f32⟩
  | 116 => ⟨S4x2048x3, .f32⟩
  | 117 => ⟨S4x2048x1x3, .f32⟩
  | 118 => ⟨S4x2048x3, .f32⟩
  | 119 => ⟨S4x2048x1, .f32⟩
  | 120 => ⟨S4x2048x1, .f32⟩
  | 121 => ⟨S4x2048x1, .f32⟩
  | 122 => ⟨S4x2048x1, .f32⟩
  | 123 => ⟨S4x2048x1, .f32⟩
  | 124 => ⟨S4x2048x1, .f32⟩
  | 125 => ⟨S4x2048x3, .f32⟩
  | 126 => ⟨S4x2048x3, .f32⟩
  | 127 => ⟨S4x2048x3, .f32⟩
  | _ => ⟨S4x2048x3, .f32⟩

abbrev hbmTy0_1 (i : Nat) : BufTy := match i % 128 with
  | 0 => ⟨S4x2048x1, .f32⟩
  | 1 => ⟨S4x2048x1, .f32⟩
  | 2 => ⟨S4x2048x1, .f32⟩
  | 3 => ⟨S4x2048x1, .f32⟩
  | 4 => ⟨S4x2048x3, .f32⟩
  | 5 => ⟨S4x2048x3, .f32⟩
  | 6 => ⟨S4x2048x3, .f32⟩
  | 7 => ⟨S4x2048x1, .f32⟩
  | 8 => ⟨S4x2048x3, .f32⟩
  | 9 => ⟨S4x2048x3, .f32⟩
  | 10 => ⟨S4x2048x3, .f32⟩
  | 11 => ⟨S4x2048x1, .f32⟩
  | 12 => ⟨S4x2048x1, .f32⟩
  | 13 => ⟨S4x2048x3, .f32⟩
  | 14 => ⟨S4x2048x3, .f32⟩
  | 15 => ⟨S4x2048x3, .f32⟩
  | 16 => ⟨S4x2048x3, .f32⟩
  | 17 => ⟨S4x2048x3, .f32⟩
  | 18 => ⟨S4x2048x3, .f32⟩
  | 19 => ⟨S4x2048x3, .f32⟩
  | 20 => ⟨S4x2048x3, .f32⟩
  | 21 => ⟨S4x2048x3, .f32⟩
  | 22 => ⟨S4x2048x3, .f32⟩
  | 23 => ⟨S4x2048x3, .f32⟩
  | 24 => ⟨S4x2048x3, .f32⟩
  | 25 => ⟨S4x2048x3, .f32⟩
  | 26 => ⟨S4x2048x3, .f32⟩
  | 27 => ⟨S4x2048x3, .f32⟩
  | 28 => ⟨S4x2048x1, .f32⟩
  | 29 => ⟨S4x2048, .f32⟩
  | 30 => ⟨S4x2048x1, .f32⟩
  | 31 => ⟨S4x2048, .f32⟩
  | 32 => ⟨S4x2048, .f32⟩
  | 33 => ⟨S4x2048x1, .f32⟩
  | 34 => ⟨S4x2048, .f32⟩
  | 35 => ⟨S4x2048, .f32⟩
  | 36 => ⟨S_, .f32⟩
  | 37 => ⟨S4x2048, .f32⟩
  | 38 => ⟨S4x2048, .f32⟩
  | 39 => ⟨S4x2048, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | _ => ⟨S4x2048x3, .f32⟩

abbrev hbmTy (i : Nat) : BufTy := match i / 128 with
  | 0 => hbmTy0_0 i
  | 1 => hbmTy0_1 i
  | _ => ⟨S4x2048x3, .f32⟩

abbrev bufTy : (tb : Table) → Fin (tcTables nBuf tb) → BufTy
  | .hbm, ⟨i, _⟩ => hbmTy i
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_values : Ref sig .tc := ⟨.hbm, 24, rfl⟩
abbrev main_indices : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_cst_14 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_15 : Ref sig .tc := ⟨.hbm, 168, rfl⟩
abbrev main_v142 : Ref sig .tc := ⟨.hbm, 169, rfl⟩
abbrev main_cst_16 : Ref sig .tc := ⟨.hbm, 170, rfl⟩
abbrev main_v143 : Ref sig .tc := ⟨.hbm, 171, rfl⟩
abbrev main_cst_17 : Ref sig .tc := ⟨.hbm, 172, rfl⟩
abbrev main_v144 : Ref sig .tc := ⟨.hbm, 173, rfl⟩

abbrev nD : Nat := 1
abbrev τ : Topo := Topo.v7x

variable {F : FTy → Type} [FloatOps F]
-- ==== Proof.Pick.lean ====
/-
  The sixteen nearest points, chosen one at a time. For a row of distances `d : Fin n → ℝ` the next choice after a set `S`
  has been taken is the position outside `S` of least distance, the least such position where distances tie. A stable sort
  by distance lists the same positions in the same order, and a fold that keeps the lesser (distance, position) pair ends at
  the first of them.
-/
module

public import Idealize.ShloMosaic.Lib.SortPrefix
public import Mathlib.Data.Prod.Lex
public import Mathlib.Data.Finset.Max
public import Mathlib.Data.Real.Basic

@[expose] public section

noncomputable section

namespace Cert.Near

open Idealize.ShloMosaic

variable {n : ℕ} [NeZero n] (d : Fin n → ℝ)

/-- Position `i` comes before position `p`, or is `p`: its distance is smaller, or equal and the position not greater. -/
def Le (i p : Fin n) : Prop := d i < d p ∨ (d i = d p ∧ i ≤ p)

theorem Le.antisymm {d : Fin n → ℝ} {i p : Fin n} (h : Le d i p) (h' : Le d p i) : i = p := by
  rcases h with h | ⟨h, hl⟩ <;> rcases h' with h' | ⟨h', hl'⟩
  · exact absurd h (not_lt.mpr h'.le)
  · exact absurd h' h.ne'
  · exact absurd h h'.ne'
  · exact le_antisymm hl hl'

/-- A nonempty set of positions has a first one. -/
theorem exists_first (T : Finset (Fin n)) (hT : T.Nonempty) : ∃ i ∈ T, ∀ p ∈ T, Le d i p := by
  obtain ⟨i, hi, hmin⟩ := T.exists_min_image (fun p => toLex (d p, p)) hT
  refine ⟨i, hi, fun p hp => ?_⟩
  have h := hmin p hp
  rw [Prod.Lex.toLex_le_toLex] at h
  exact h

/-- The next choice once `S` is taken (position `0` if nothing is left). -/
def next (S : Finset (Fin n)) : Fin n :=
  open Classical in if h : Sᶜ.Nonempty then (exists_first d Sᶜ h).choose else 0

theorem next_spec {S : Finset (Fin n)} (hS : S.card < n) : next d S ∉ S ∧ ∀ p, p ∉ S → Le d (next d S) p := by
  classical
  have h : (Sᶜ : Finset (Fin n)).Nonempty := by
    rw [← Finset.card_pos, Finset.card_compl, Fintype.card_fin]; omega
  have e : next d S = (exists_first d Sᶜ h).choose := by unfold next; rw [dif_pos h]
  have hs := (exists_first d Sᶜ h).choose_spec
  rw [← e] at hs
  exact ⟨by simpa using hs.1, fun p hp => hs.2 p (by simpa using hp)⟩

/-- The first position outside `S` is the next choice. -/
theorem eq_next {S : Finset (Fin n)} {i : Fin n} (hi : i ∉ S) (h : ∀ p, p ∉ S → Le d i p) : i = next d S := by
  have hS : S.card < n := by
    have := Finset.card_lt_univ_of_notMem hi
    rwa [Fintype.card_fin] at this
  obtain ⟨h1, h2⟩ := next_spec d hS
  exact (h _ h1).antisymm (h2 _ hi)

/-- The positions taken by the first `k` choices. -/
def taken : ℕ → Finset (Fin n)
  | 0 => ∅
  | k + 1 => insert (next d (taken k)) (taken k)

/-- The `k`-th choice, counted from `0`. -/
def choice (k : ℕ) : Fin n := next d (taken d k)

theorem card_taken {k : ℕ} (hk : k ≤ n) : (taken d k).card = k := by
  induction k with
  | zero => rfl
  | succ k ih =>
    have hk' := ih (by omega)
    unfold taken
    rw [Finset.card_insert_of_notMem (next_spec d (by omega)).1, hk']

theorem taken_mono {j k : ℕ} (h : j ≤ k) : taken d j ⊆ taken d k := by
  induction k with
  | zero => obtain rfl : j = 0 := by omega
            exact subset_rfl
  | succ k ih =>
    rcases Nat.lt_or_ge j (k + 1) with h' | h'
    · exact (ih (by omega)).trans (Finset.subset_insert _ _)
    · obtain rfl : j = k + 1 := by omega
      exact subset_rfl

theorem choice_mem {j k : ℕ} (h : j < k) : choice d j ∈ taken d k :=
  taken_mono d (Nat.succ_le_of_lt h) (by show _ ∈ insert _ _; exact Finset.mem_insert_self _ _)

theorem choice_notMem {k : ℕ} (hk : k < n) : choice d k ∉ taken d k :=
  (next_spec d (by rw [card_taken d hk.le]; exact hk)).1

/-- What is taken by `k` choices is the `k` choices. -/
theorem mem_taken {k : ℕ} {p : Fin n} : p ∈ taken d k ↔ ∃ j : Fin k, choice d j = p := by
  induction k with
  | zero => simp [taken]
  | succ k ih =>
    show p ∈ insert _ _ ↔ _
    rw [Finset.mem_insert, ih]
    constructor
    · rintro (h | ⟨j, h⟩)
      · exact ⟨Fin.last k, h.symm⟩
      · exact ⟨j.castSucc, h⟩
    · rintro ⟨j, h⟩
      rcases Nat.lt_or_ge j.val k with hj | hj
      · exact Or.inr ⟨⟨j, hj⟩, h⟩
      · have : j.val = k := by omega
        exact Or.inl (by rw [← h, this]; rfl)

theorem choice_ne {j k : ℕ} (h : j < k) (hk : k < n) : choice d j ≠ choice d k :=
  fun e => choice_notMem d hk (e ▸ choice_mem d h)

theorem choice_injective {k : ℕ} (hk : k ≤ n) : Function.Injective fun j : Fin k => choice d j := by
  intro i j h
  by_contra hne
  rcases lt_or_gt_of_ne hne with hlt | hgt
  · exact choice_ne d hlt (by omega) h
  · exact choice_ne d hgt (by omega) h.symm

theorem choice_le {k : ℕ} (hk : k < n) {p : Fin n} (hp : p ∉ taken d k) : Le d (choice d k) p :=
  (next_spec d (by rw [card_taken d hk.le]; exact hk)).2 p hp

/-- A sum over the positions taken by `k` choices is the sum over the choices. -/
theorem sum_taken {k : ℕ} (hk : k ≤ n) (f : Fin n → ℝ) : ∑ p ∈ taken d k, f p = ∑ j : Fin k, f (choice d j) := by
  classical
  have e : taken d k = Finset.univ.image fun j : Fin k => choice d j := by
    ext p; rw [mem_taken]; simp
  rw [e, Finset.sum_image fun i _ j _ h => choice_injective d hk h]

/-! ## The stable sort -/

/-- Breaking ties by position changes nothing in an insertion of a position that precedes all those already placed. -/
theorem insertBefore_tie (B : Fin n → Fin n → Bool) (tie : Fin n → Fin n → Bool) (a : Fin n) (l : List (Fin n))
    (h : ∀ b ∈ l, a < b) :
    insertBefore (fun k k' => B k k' || (tie k k' && decide (k < k'))) a l = insertBefore B a l := by
  induction l with
  | nil => rfl
  | cons b l ih =>
    have hb : ¬ b < a := (h b (by simp)).le.not_gt
    unfold insertBefore
    simp only [hb, decide_false, Bool.and_false, Bool.or_false]
    rw [ih fun c hc => h c (by simp [hc])]

/-- A stable sort of positions listed in order breaks ties by position. -/
theorem stableSort_tie (B : Fin n → Fin n → Bool) (tie : Fin n → Fin n → Bool) (l : List (Fin n)) (h : l.Pairwise (· < ·)) :
    stableSort (fun k k' => B k k' || (tie k k' && decide (k < k'))) l = stableSort B l := by
  induction l with
  | nil => rfl
  | cons a l ih =>
    rw [List.pairwise_cons] at h
    unfold stableSort
    rw [ih h.2]
    exact insertBefore_tie B tie a _ fun b hb => h.1 b ((perm_stableSort B l).mem_iff.mp hb)

/-- The stable sort by distance lists the choices in order. -/
theorem sortedFrom_eq_choice (B : Fin n → Fin n → Bool) (hB : ∀ k k', B k k' = decide (d k < d k')) {k : ℕ} (hk : k ≤ n)
    (i : Fin k) : sortedFrom B (i.castLE hk) = choice d i := by
  classical
  obtain rfl : B = fun k k' => decide (d k < d k') := by funext a b; exact hB a b
  have e : sortedFrom (fun k k' => decide (d k < d k')) (i.castLE hk)
      = sortedFrom (fun k k' => decide (d k < d k') || (decide (d k = d k') && decide (k < k'))) (i.castLE hk) := by
    unfold sortedFrom sortPositions
    have := stableSort_tie (fun k k' : Fin n => decide (d k < d k')) (fun k k' => decide (d k = d k')) (List.finRange n)
      (List.pairwise_lt_finRange n)
    simp only [List.get_eq_getElem]
    congr 1
    exact this.symm
  rw [e]
  have hs : StrictTotalBefore fun k k' : Fin n => decide (d k < d k') || (decide (d k = d k') && decide (k < k')) :=
    StrictTotalBefore.of_key_then_position (fun a b : ℝ => decide (a < b)) d (by simp)
      (fun a b c h h' => by simp at h h' ⊢; exact h.trans h') (fun a b => by simpa using lt_trichotomy a b)
  have key : ∀ (j : Fin k) (p : Fin n), p ∉ taken d j →
      (decide (d p < d (choice d j)) || (decide (d p = d (choice d j)) && decide (p < choice d j))) = false := by
    intro j p hp
    have := choice_le d (k := j) (by omega) hp
    simp only [Bool.or_eq_false_iff, decide_eq_false_iff_not, Bool.and_eq_false_iff]
    rcases this with h | ⟨h, hl⟩
    · exact ⟨h.le.not_gt, Or.inl h.ne'⟩
    · exact ⟨by rw [h]; exact lt_irrefl _, Or.inr hl.not_gt⟩
  refine hs.sortedFrom_eq_of_prefix hk (fun j => choice d j) (choice_injective d hk) ?_ ?_ i
  · intro a b hab
    exact key a _ fun h => choice_notMem d (k := b) (by omega) (taken_mono d (le_of_lt hab) h)
  · intro a p hp
    refine key a p fun h => ?_
    obtain ⟨j, hj⟩ := (mem_taken d).mp h
    exact hp ⟨j, by omega⟩ hj

/-! ## The least pair of a fold -/

/-- A fold whose step returns one of its two arguments, and one that is `R`-below both, ends at a member of the list or at
    its start, `R`-below all of them. -/
theorem foldl_least {α : Type} (R : α → α → Prop) (hrefl : ∀ a, R a a) (htrans : ∀ a b c, R a b → R b c → R a c)
    (f : α → α → α) (hf : ∀ a b, (f a b = a ∨ f a b = b) ∧ R (f a b) a ∧ R (f a b) b) (l : List α) (a : α) :
    (l.foldl f a = a ∨ l.foldl f a ∈ l) ∧ R (l.foldl f a) a ∧ ∀ b ∈ l, R (l.foldl f a) b := by
  induction l generalizing a with
  | nil => exact ⟨Or.inl rfl, hrefl a, by simp⟩
  | cons b l ih =>
    obtain ⟨h1, h2, h3⟩ := ih (f a b)
    obtain ⟨g1, g2, g3⟩ := hf a b
    simp only [List.foldl_cons, List.mem_cons]
    refine ⟨?_, htrans _ _ _ h2 g2, ?_⟩
    · rcases h1 with h1 | h1
      · rw [h1]; rcases g1 with g1 | g1
        · exact Or.inl g1
        · exact Or.inr (Or.inl g1)
      · exact Or.inr (Or.inr h1)
    · rintro c (rfl | hc)
      · exact htrans _ _ _ h2 g3
      · exact h3 c hc

end Cert.Near

end
-- ==== Proof.Lin.lean ====
/-
  The linear algebra of one query point, over the reals. The least-squares system of a point is `A X = Y` with
  `A = Σ v vᵀ + t I`, `t > 0`: its leading minors are positive, so elimination without exchanges meets no zero pivot and the
  trace of its solution is the adjugate's contraction with `Y` over the determinant.
-/
module

public import Mathlib.Algebra.Order.BigOperators.Ring.Finset
public import Mathlib.Data.Real.Basic
public import Mathlib.Tactic.FieldSimp
public import Mathlib.Tactic.LinearCombination
public import Mathlib.Tactic.Linarith
public import Mathlib.Tactic.NormNum
public import Mathlib.Tactic.Positivity

@[expose] public section

namespace Cert.Near

/-- The trace of the solution that elimination finds is the adjugate's contraction with the right side over the determinant,
    where the three leading minors are not zero. -/
theorem elimination_trace (a00 a01 a02 a11 a12 a22 y00 y01 y02 y10 y11 y12 y20 y21 y22 : ℝ) (h1 : a00 ≠ 0)
    (h2 : a00 * a11 - a01 * a01 ≠ 0)
    (h3 : a00 * (a11 * a22 - a12 * a12) + a01 * (a02 * a12 - a01 * a22) + a02 * (a01 * a12 - a11 * a02) ≠ 0)
    (l1 l2 b11 b12 b21 b22 l3 p z10 z11 z12 z20 z21 z22 x20 x21 x22 x10 x11 x00 : ℝ)
    (hl1 : l1 = a01 / a00) (hl2 : l2 = a02 / a00) (hb11 : b11 = a11 - l1 * a01) (hb12 : b12 = a12 - l1 * a02)
    (hz10 : z10 = y10 - l1 * y00) (hz11 : z11 = y11 - l1 * y01) (hz12 : z12 = y12 - l1 * y02)
    (hb21 : b21 = a12 - l2 * a01) (hb22 : b22 = a22 - l2 * a02)
    (hz20 : z20 = y20 - l2 * y00) (hz21 : z21 = y21 - l2 * y01) (hz22 : z22 = y22 - l2 * y02)
    (hl3 : l3 = b21 / b11) (hp : p = b22 - l3 * b12)
    (hx20 : x20 = (z20 - l3 * z10) / p) (hx21 : x21 = (z21 - l3 * z11) / p) (hx22 : x22 = (z22 - l3 * z12) / p)
    (hx10 : x10 = (z10 - b12 * x20) / b11) (hx11 : x11 = (z11 - b12 * x21) / b11)
    (hx00 : x00 = (y00 - a01 * x10 - a02 * x20) / a00) :
    b11 ≠ 0 ∧ p ≠ 0 ∧
    x00 + x11 + x22
      = ((a11 * a22 - a12 * a12) * y00 + (a02 * a12 - a01 * a22) * y10 + (a01 * a12 - a11 * a02) * y20
          + (a02 * a12 - a01 * a22) * y01 + (a00 * a22 - a02 * a02) * y11 + (a01 * a02 - a00 * a12) * y21
          + (a01 * a12 - a11 * a02) * y02 + (a01 * a02 - a00 * a12) * y12 + (a00 * a11 - a01 * a01) * y22)
        / (a00 * (a11 * a22 - a12 * a12) + a01 * (a02 * a12 - a01 * a22) + a02 * (a01 * a12 - a11 * a02)) := by
  set M := a00 * a11 - a01 * a01 with hM
  set D := a00 * (a11 * a22 - a12 * a12) + a01 * (a02 * a12 - a01 * a22) + a02 * (a01 * a12 - a11 * a02) with hD
  have eb11 : b11 = M / a00 := by rw [hb11, hl1, hM]; field_simp
  have nb : b11 ≠ 0 := by rw [eb11]; exact div_ne_zero h2 h1
  have eb12 : b12 = (a00 * a12 - a01 * a02) / a00 := by rw [hb12, hl1]; field_simp
  have el3 : l3 = (a00 * a12 - a01 * a02) / M := by
    rw [hl3, eb11, hb21, hl2]; field_simp
  have ep : p = D / M := by
    rw [hp, hb22, hl2, el3, eb12, eq_div_iff h2]; field_simp; rw [hD, hM]; ring
  have np : p ≠ 0 := by rw [ep]; exact div_ne_zero h3 h2
  refine ⟨nb, np, ?_⟩
  have ex2 : ∀ c y0 y1 y2 z1 z2 x : ℝ, z1 = y1 - l1 * y0 → z2 = y2 - l2 * y0 → x = (z2 - l3 * z1) / p →
      x = ((a01 * a12 - a11 * a02) * y0 + (a01 * a02 - a00 * a12) * y1 + M * y2) / D := by
    intro c y0 y1 y2 z1 z2 x e1 e2 e3
    rw [e3, e1, e2, el3, hl1, hl2, ep]
    field_simp
    rw [hM]; ring
  have e20 := ex2 0 _ _ _ _ _ _ hz10 hz20 hx20
  have e21 := ex2 0 _ _ _ _ _ _ hz11 hz21 hx21
  have e22 := ex2 0 _ _ _ _ _ _ hz12 hz22 hx22
  have ex1 : ∀ y0 y1 y2 z1 x2 x : ℝ, z1 = y1 - l1 * y0 →
      x2 = ((a01 * a12 - a11 * a02) * y0 + (a01 * a02 - a00 * a12) * y1 + M * y2) / D → x = (z1 - b12 * x2) / b11 →
      x = ((a02 * a12 - a01 * a22) * y0 + (a00 * a22 - a02 * a02) * y1 + (a01 * a02 - a00 * a12) * y2) / D := by
    intro y0 y1 y2 z1 x2 x e1 e2 e3
    rw [e3, e1, e2, eb11, eb12, hl1]
    field_simp
    rw [hM, hD]; ring
  have e10 := ex1 _ _ _ _ _ _ hz10 e20 hx10
  have e11 := ex1 _ _ _ _ _ _ hz11 e21 hx11
  have e00 : x00 = ((a11 * a22 - a12 * a12) * y00 + (a02 * a12 - a01 * a22) * y10 + (a01 * a12 - a11 * a02) * y20) / D := by
    rw [hx00, e10, e20, div_eq_iff h1]
    field_simp
    rw [hM, hD]; ring
  rw [e00, e11, e22]
  field_simp
  rw [hM]; ring

/-- Two vectors' inner product, squared, is at most the product of their squared lengths. -/
theorem inner_sq_le {ι : Type} [Fintype ι] (f g : ι → ℝ) :
    (∑ k, f k * g k) * (∑ k, f k * g k) ≤ (∑ k, f k * f k) * ∑ k, g k * g k := by
  have := Finset.sum_mul_sq_le_sq_mul_sq Finset.univ f g
  simpa only [sq] using this

/-- The determinant of three vectors' inner products is not negative. -/
theorem gram_det_nonneg {ι : Type} [Fintype ι] (v : ι → Fin 3 → ℝ) (X : Fin 3 → Fin 3 → ℝ)
    (hX : ∀ a b, X a b = ∑ k, v k a * v k b) :
    0 ≤ X 0 0 * (X 1 1 * X 2 2 - X 1 2 * X 1 2) + X 0 1 * (X 0 2 * X 1 2 - X 0 1 * X 2 2)
        + X 0 2 * (X 0 1 * X 1 2 - X 1 1 * X 0 2) := by
  have nn : 0 ≤ X 0 0 := by rw [hX]; exact Finset.sum_nonneg fun k _ => mul_self_nonneg _
  rcases nn.eq_or_lt with h0 | h0
  · have hv : ∀ k, v k 0 = 0 := fun k => by
      have h := h0.symm
      rw [hX, Finset.sum_eq_zero_iff_of_nonneg fun k _ => mul_self_nonneg _] at h
      exact mul_self_eq_zero.mp (h k (Finset.mem_univ k))
    have h1 : X 0 1 = 0 := by rw [hX]; exact Finset.sum_eq_zero fun k _ => by rw [hv k, zero_mul]
    have h2 : X 0 2 = 0 := by rw [hX]; exact Finset.sum_eq_zero fun k _ => by rw [hv k, zero_mul]
    rw [← h0, h1, h2]; simp
  · have e : ∀ a b, ∑ k, (X 0 0 * v k a - X 0 a * v k 0) * (X 0 0 * v k b - X 0 b * v k 0)
        = X 0 0 * (X 0 0 * X a b - X 0 a * X 0 b) := by
      intro a b
      have : ∀ k, (X 0 0 * v k a - X 0 a * v k 0) * (X 0 0 * v k b - X 0 b * v k 0)
          = X 0 0 * X 0 0 * (v k a * v k b) - X 0 0 * X 0 b * (v k 0 * v k a) - X 0 a * X 0 0 * (v k 0 * v k b)
            + X 0 a * X 0 b * (v k 0 * v k 0) := fun k => by ring
      simp only [this, Finset.sum_add_distrib, Finset.sum_sub_distrib, ← Finset.mul_sum, ← hX]
      ring
    have cs := inner_sq_le (fun k => X 0 0 * v k 1 - X 0 1 * v k 0) (fun k => X 0 0 * v k 2 - X 0 2 * v k 0)
    rw [e, e, e] at cs
    have h3 : 0 ≤ X 0 0 ^ 3 * (X 0 0 * (X 1 1 * X 2 2 - X 1 2 * X 1 2) + X 0 1 * (X 0 2 * X 1 2 - X 0 1 * X 2 2)
        + X 0 2 * (X 0 1 * X 1 2 - X 1 1 * X 0 2)) := by nlinarith [cs]
    exact nonneg_of_mul_nonneg_right h3 (pow_pos h0 3)

/-- The leading minors of `Σ v vᵀ + t I` are positive for `t > 0`. -/
theorem minors_pos {ι : Type} [Fintype ι] (v : ι → Fin 3 → ℝ) (t : ℝ) (ht : 0 < t) (X : Fin 3 → Fin 3 → ℝ)
    (hX : ∀ a b, X a b = ∑ k, v k a * v k b) :
    0 < X 0 0 + t ∧ 0 < (X 0 0 + t) * (X 1 1 + t) - X 0 1 * X 0 1 ∧
    0 < (X 0 0 + t) * ((X 1 1 + t) * (X 2 2 + t) - X 1 2 * X 1 2) + X 0 1 * (X 0 2 * X 1 2 - X 0 1 * (X 2 2 + t))
        + X 0 2 * (X 0 1 * X 1 2 - (X 1 1 + t) * X 0 2) := by
  have nn : ∀ a, 0 ≤ X a a := fun a => by rw [hX]; exact Finset.sum_nonneg fun k _ => mul_self_nonneg _
  have cs : ∀ a b, X a b * X a b ≤ X a a * X b b := fun a b => by
    rw [hX, hX, hX]; exact inner_sq_le (fun k => v k a) (fun k => v k b)
  have tn : ∀ a, 0 ≤ t * X a a := fun a => mul_nonneg ht.le (nn a)
  have tt : ∀ a, 0 ≤ t * t * X a a := fun a => mul_nonneg (mul_self_nonneg t) (nn a)
  have tc : ∀ a b, 0 ≤ t * (X a a * X b b - X a b * X a b) := fun a b => mul_nonneg ht.le (sub_nonneg.mpr (cs a b))
  have hd := gram_det_nonneg v X hX
  refine ⟨by linarith [nn 0], ?_, ?_⟩
  · nlinarith [cs 0 1, tn 0, tn 1, mul_pos ht ht]
  · have t3 : 0 < t * t * t := by positivity
    nlinarith [hd, tc 0 1, tc 0 2, tc 1 2, tt 0, tt 1, tt 2, t3]

/-- The second moments about `q` of the points in a set of `N`, from their raw moments. -/
theorem second_moment {ι : Type} (T : Finset ι) (N : ℝ) (hN : (T.card : ℝ) = N) (f g : ι → ℝ) (p q : ℝ) :
    ∑ k ∈ T, (f k - p) * (g k - q) = ∑ k ∈ T, f k * g k - p * ∑ k ∈ T, g k - q * ∑ k ∈ T, f k + N * p * q := by
  have : ∀ k, (f k - p) * (g k - q) = f k * g k - p * g k - q * f k + p * q := fun k => by ring
  simp only [this, Finset.sum_add_distrib, Finset.sum_sub_distrib, Finset.sum_const, nsmul_eq_mul, hN, Finset.mul_sum]
  ring

end Cert.Near
-- ==== Proof.Spec.lean ====
/-
  What both programs compute at one query point, over the reals: the point's distances to the reference points, the second
  moments of its sixteen nearest points about it, the mixed moments of those points with the fields' differences, and the
  divergence that the regularised least-squares gradients give.
-/
module

public import proofs.«01_k».proof.Proof.Pick
public import proofs.«01_k».proof.Proof.Lin
public import Idealize.ShloMosaic.PureOps.Ideal.Laws

@[expose] public section

noncomputable section

namespace Cert.Near

open Idealize.ShloMosaic

/-- The distance of two points, in the expanded form both programs use. -/
def dist (q p : Fin 3 → ℝ) : ℝ :=
  Real.sqrt (max ((∑ a, q a * q a + ∑ a, p a * p a) - 2 * ∑ a, q a * p a) 0)

/-- `1e-12` and `1e-6` as the programs hold them in f32. -/
def eps : ℝ := 9223372 / 2 ^ 63
def ridge : ℝ := 8796093 / 2 ^ 43

theorem eps_pos : 0 < eps := by unfold eps; positivity
theorem ridge_pos : 0 < ridge := by unfold ridge; positivity

theorem ofBits_eps : Ideal.ofBits .f32 0x2B8CBCCC#32 = (eps : EReal) := by
  simp [Ideal.ofBits, Ideal.ieee, -EReal.coe_mul, eps]; norm_num
theorem ofBits_ridge : Ideal.ofBits .f32 0x358637BD#32 = (ridge : EReal) := by
  simp [Ideal.ofBits, Ideal.ieee, -EReal.coe_mul, ridge]; norm_num
theorem ofBits_two : Ideal.ofBits .f32 0x40000000#32 = ((2 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem ofBits_nine : Ideal.ofBits .f32 0x41100000#32 = ((9 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num
/-- The word of `+∞` is the top value. -/
theorem ofBits_inf : Ideal.ofBits .f32 0x7F800000#32 = ⊤ := by
  simp [Ideal.ofBits, Ideal.ieee]

/-- A quotient of reals, the divisor not zero, is the reals' quotient. -/
theorem div_coe {x y : ℝ} (hy : y ≠ 0) : Ideal.div (x : EReal) (y : EReal) = ((x / y : ℝ) : EReal) := by
  unfold Ideal.div
  rw [if_neg (by exact_mod_cast hy), div_eq_mul_inv, EReal.coe_mul, EReal.coe_inv]

/-- The square root of a real that is not negative is the reals'. -/
theorem sqrt_coe {x : ℝ} (hx : 0 ≤ x) : Ideal.sqrt (x : EReal) = (Real.sqrt x : EReal) := by
  show (if x < 0 then (⊥ : EReal) else (Real.sqrt x : EReal)) = _
  rw [if_neg hx.not_gt]

theorem max_coe (x y : ℝ) : max (x : EReal) (y : EReal) = ((max x y : ℝ) : EReal) :=
  (EReal.coe_strictMono.monotone.map_max).symm

/-- The absolute value of a real. -/
theorem abs_coe (x : ℝ) : max (x : EReal) (-(x : EReal)) = ((|x| : ℝ) : EReal) := by
  rw [← EReal.coe_neg, max_coe]; rfl

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem max_zero_coe (x : ℝ) : max (x : EReal) 0 = ((max x 0 : ℝ) : EReal) := by
  rw [← EReal.coe_zero, max_coe]

section
variable (q : Fin 3 → ℝ) (r u : Fin 8192 → Fin 3 → ℝ)

/-- The distances of the query point `q` to the reference points. -/
def dists (n : Fin 8192) : ℝ := dist q (r n)

/-- The `k`-th nearest reference point. -/
def near (k : ℕ) : Fin 8192 := choice (dists q r) k

/-- The second moments of the sixteen nearest points about `q`. -/
def X (a b : Fin 3) : ℝ := ∑ k : Fin 16, (r (near q r k) a - q a) * (r (near q r k) b - q b)

/-- Their moments with the fields' differences from the values at the nearest point. -/
def Y (a c : Fin 3) : ℝ := ∑ k : Fin 16, (r (near q r k) a - q a) * (u (near q r k) c - u (near q r 0) c)

/-- What is added to the diagonal: a small multiple of the mean absolute moment, plus a positive number. -/
def shift : ℝ := ridge * ((∑ a, ∑ b, |X q r a b|) / 9 + eps)

/-- The determinant of the symmetric matrix with the given upper triangle, by its first row. -/
def det3 (a00 a01 a02 a11 a12 a22 : ℝ) : ℝ :=
  a00 * (a11 * a22 - a12 * a12) + a01 * (a02 * a12 - a01 * a22) + a02 * (a01 * a12 - a11 * a02)

/-- The trace of `adj A · Y`. -/
def adjTrace (a00 a01 a02 a11 a12 a22 : ℝ) (Y : Fin 3 → Fin 3 → ℝ) : ℝ :=
  (a11 * a22 - a12 * a12) * Y 0 0 + (a02 * a12 - a01 * a22) * Y 1 0 + (a01 * a12 - a11 * a02) * Y 2 0
    + (a02 * a12 - a01 * a22) * Y 0 1 + (a00 * a22 - a02 * a02) * Y 1 1 + (a01 * a02 - a00 * a12) * Y 2 1
    + (a01 * a12 - a11 * a02) * Y 0 2 + (a01 * a02 - a00 * a12) * Y 1 2 + (a00 * a11 - a01 * a01) * Y 2 2

/-- The divergence at the query point. -/
def divergence : ℝ :=
  adjTrace (X q r 0 0 + shift q r) (X q r 0 1) (X q r 0 2) (X q r 1 1 + shift q r) (X q r 1 2) (X q r 2 2 + shift q r) (Y q r u)
    / det3 (X q r 0 0 + shift q r) (X q r 0 1) (X q r 0 2) (X q r 1 1 + shift q r) (X q r 1 2) (X q r 2 2 + shift q r)

theorem shift_pos : 0 < shift q r := by
  unfold shift
  refine mul_pos ridge_pos (add_pos_of_nonneg_of_pos ?_ eps_pos)
  exact div_nonneg (Finset.sum_nonneg fun _ _ => Finset.sum_nonneg fun _ _ => abs_nonneg _) (by norm_num)

theorem X_symm (a b : Fin 3) : X q r a b = X q r b a := Finset.sum_congr rfl fun _ _ => mul_comm _ _

/-- The leading minors of the system are positive. -/
theorem minors : 0 < X q r 0 0 + shift q r ∧ 0 < (X q r 0 0 + shift q r) * (X q r 1 1 + shift q r) - X q r 0 1 * X q r 0 1 ∧
    0 < det3 (X q r 0 0 + shift q r) (X q r 0 1) (X q r 0 2) (X q r 1 1 + shift q r) (X q r 1 2) (X q r 2 2 + shift q r) :=
  minors_pos (fun (k : Fin 16) a => r (near q r k) a - q a) (shift q r) (shift_pos q r) (X q r) fun _ _ => rfl

end

/-- The mean over the query points of the squared divergence. -/
def loss (Q : Fin 4 → Fin 2048 → Fin 3 → ℝ) (R U : Fin 4 → Fin 8192 → Fin 3 → ℝ) : ℝ :=
  (∑ b, ∑ i, divergence (Q b i) (R b) (U b) * divergence (Q b i) (R b) (U b)) / 8192

end Cert.Near

end
-- ==== Proof.Rounds.lean ====
/-
  One round of the kernel's selection over its block of distances, `8192` rows (reference points) by `512` columns (query
  points): in every column the least distance, the first row that holds it, and that row overwritten with `+∞`. After `k`
  rounds a column holds `+∞` at its `k` nearest points and its distances elsewhere.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Near

open Idealize.ShloMosaic Cert.KernelIdeal Cert.KernelIdeal.Facts₀ Cert.KernelIdeal.Facts

/-- The row numbers of the block. -/
def rows : IVec S8192x512 32 := iota .tc S8192x512 32 [0] iota_S8192x512_d0_w32

/-- The least entry of each column. -/
def least (D : FVec Ideal S8192x512 .f32) : FVec Ideal S512 .f32 :=
  multiReduction .minimumf [0] S512 D 0x7F800000#32 reduces_S8192x512_S512 (.inl rfl) rfl

/-- Where a column's entry is its least. -/
def atLeast (D : FVec Ideal S8192x512 .f32) : IVec S8192x512 1 :=
  cmpf .oeq D (broadcastTo S8192x512 (shapeCast S1x512 (least D) shapeCasts_S512_S1x512) broadcasts_S1x512_S8192x512)

/-- The first row of each column that holds its least entry. -/
def firstRow (D : FVec Ideal S8192x512 .f32) : IVec S512 32 :=
  multiReductionI .minsi [0] S512 (select (atLeast D) rows (broadcast S8192x512 8192#32)) 2147483647#32 reduces_S8192x512_S512 rfl

/-- Where a row is its column's given row number. -/
def hit (i : IVec S1x512 32) : IVec S8192x512 1 :=
  cmpi .eq rows (broadcastTo S8192x512 i broadcasts_S1x512_S8192x512)

/-- One round: the first row of least entry overwritten with `+∞`. -/
def round (D : FVec Ideal S8192x512 .f32) : FVec Ideal S8192x512 .f32 :=
  select (hit (shapeCast S1x512 (firstRow D) shapeCasts_S512_S1x512))
    (broadcast S8192x512 (Scalar.ofBits (F := Ideal) .f32 0x7F800000#32)) D

/-- A column's least entry is the fold of `min` over its rows. -/
theorem least_apply (D : FVec Ideal S8192x512 .f32) (j : Fin 512) :
    least D (ix1 j) = Finset.univ.fold min (⊤ : EReal) fun n : Fin 8192 => D (ix2 n j) := by
  pointwise [least]
  rw [ofBits_inf]

/-- The row number found in a column is the signed fold of the numbers of the rows that hold the least entry. -/
theorem firstRow_apply (D : FVec Ideal S8192x512 .f32) (j : Fin 512) :
    firstRow D (ix1 j) = Finset.univ.fold IntOp.minsi (2147483647#32)
      fun n : Fin 8192 => if D (ix2 n j) = least D (ix1 j) then BitVec.ofNat 32 n.val else 8192#32 := by
  pointwise [firstRow, atLeast, rows]

theorem minsi_toInt (x y : BitVec 32) : (IntOp.minsi x y).toInt = min x.toInt y.toInt := by
  unfold IntOp.minsi
  rw [BitVec.slt_eq_decide]
  by_cases h : x.toInt < y.toInt
  · simp [h, h.le]
  · simp [h, not_lt.mp h]

/-- The signed fold of `minsi` is the word whose value is below every folded one, if it is one of them. -/
theorem fold_minsi_eq {ι : Type} [Fintype ι] (a b : BitVec 32) (f : ι → BitVec 32) (i : ι) (hi : f i = b)
    (ha : b.toInt ≤ a.toInt) (hf : ∀ k, b.toInt ≤ (f k).toInt) : Finset.univ.fold IntOp.minsi a f = b := by
  have key : ∀ c : BitVec 32, c.toInt ≤ (Finset.univ.fold IntOp.minsi a f).toInt
      ↔ c.toInt ≤ a.toInt ∧ ∀ x ∈ Finset.univ, c.toInt ≤ (f x).toInt := fun c =>
    Finset.fold_op_rel_iff_and (r := fun x y : BitVec 32 => x.toInt ≤ y.toInt)
      (fun {x y z} => by rw [minsi_toInt]; exact le_min_iff)
  apply BitVec.eq_of_toInt_eq
  apply le_antisymm
  · rw [← hi]; exact ((key _).mp le_rfl).2 i (Finset.mem_univ i)
  · exact (key b).mpr ⟨ha, fun x _ => hf x⟩

theorem toInt_ofNat_small {n : ℕ} (h : n ≤ 8192) : (BitVec.ofNat 32 n).toInt = n := by
  rw [BitVec.toInt_eq_toNat_cond, BitVec.toNat_ofNat, Nat.mod_eq_of_lt (by omega)]
  rw [if_pos (by omega)]

/-- Column `j` of the block `D` holds `+∞` at the first `k` choices of the distances `δ`, and `δ` elsewhere. -/
def After (δ : Fin 8192 → ℝ) (j : Fin 512) (k : ℕ) (D : FVec Ideal S8192x512 .f32) : Prop :=
  ∀ n : Fin 8192, D (ix2 n j) = open Classical in if n ∈ taken δ k then (⊤ : EReal) else (δ n : EReal)

variable {δ : Fin 8192 → ℝ} {j : Fin 512} {k : ℕ} {D : FVec Ideal S8192x512 .f32}

/-- The least entry of a column after `k` rounds is the distance of choice `k`. -/
theorem After.least (h : After δ j k D) (hk : k < 8192) : least D (ix1 j) = (δ (choice δ k) : EReal) := by
  classical
  rw [least_apply]
  apply le_antisymm
  · refine Finset.fold_min_le _ |>.mpr (Or.inr ⟨choice δ k, Finset.mem_univ _, ?_⟩)
    rw [h, if_neg (choice_notMem δ hk)]
  · refine Finset.le_fold_min _ |>.mpr ⟨le_top, fun n _ => ?_⟩
    rw [h]
    split_ifs with hn
    · exact le_top
    · rcases choice_le δ hk hn with h' | h'
      · exact EReal.coe_le_coe_iff.mpr h'.le
      · exact EReal.coe_le_coe_iff.mpr h'.1.le

/-- The row found in round `k` is choice `k`. -/
theorem After.firstRow (h : After δ j k D) (hk : k < 8192) : firstRow D (ix1 j) = BitVec.ofNat 32 (choice δ k).val := by
  classical
  rw [firstRow_apply, h.least hk]
  refine fold_minsi_eq _ _ _ (choice δ k) ?_ ?_ ?_
  · rw [if_pos]; rw [h, if_neg (choice_notMem δ hk)]
  · rw [toInt_ofNat_small (choice δ k).isLt.le]
    have := (choice δ k).isLt
    have e : (2147483647#32).toInt = 2147483647 := by decide
    rw [e]; omega
  · intro n
    rw [toInt_ofNat_small (choice δ k).isLt.le]
    have hc := (choice δ k).isLt
    split_ifs with hn
    · rw [toInt_ofNat_small n.isLt.le]
      rw [h] at hn
      split_ifs at hn with hm
      · exact absurd hn (EReal.top_ne_coe _)
      · rcases choice_le δ hk hm with h' | h'
        · exact absurd (EReal.coe_eq_coe_iff.mp hn) h'.ne'
        · exact_mod_cast h'.2
    · have e : (8192#32).toInt = 8192 := by decide
      rw [e]; omega

theorem ofNat_inj_small {a b : Fin 8192} : BitVec.ofNat 32 a.val = BitVec.ofNat 32 b.val ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- A round takes the column from `k` choices to `k + 1`. -/
theorem After.round (h : After δ j k D) (hk : k < 8192) : After δ j (k + 1) (round D) := by
  classical
  intro n
  have e : Near.round D (ix2 n j) = Scalar.select (IntOp.cmpi CmpIPredicate.eq (BitVec.ofNat 32 n.val) (Near.firstRow D (ix1 j)))
      (Ideal.ofBits FTy.f32 0x7F800000#32) (D (ix2 n j)) := by
    pointwise [Near.round, hit, rows]
  rw [e, h.firstRow hk, ofBits_inf, h]
  have ec : IntOp.cmpi CmpIPredicate.eq (BitVec.ofNat 32 n.val) (BitVec.ofNat 32 (choice δ k).val)
      = if n = choice δ k then 1#1 else 0#1 := by
    by_cases hn : n = choice δ k
    · simp [IntOp.cmpi, hn]
    · have hb : (BitVec.ofNat 32 n.val == BitVec.ofNat 32 (choice δ k).val) = false := by
        rw [beq_eq_false_iff_ne]; exact fun h => hn (ofNat_inj_small.mp h)
      rw [if_neg hn]
      show BitVec.ofBool (_ == _) = _
      rw [hb]; rfl
  rw [ec]
  show _ = if n ∈ insert (choice δ k) (taken δ k) then (⊤ : EReal) else (δ n : EReal)
  simp only [Finset.mem_insert]
  by_cases hn : n = choice δ k
  · simp [hn, Scalar.select]
  · simp [hn, Scalar.select]

end Cert.Near

end
-- ==== Proof.KerBlock.lean ====
/-
  The kernel's output block at a query point: the square of the divergence of `Cert.Near.divergence`, where the four
  input blocks hold real numbers.
-/
module

public import proofs.«01_k».proof.Proof.Gen.KernelIdeal.Frame
public import proofs.«01_k».proof.Proof.Rounds
public import Idealize.ShloMosaic.Lib.Pointwise

@[expose] public section

set_option maxRecDepth 16384

noncomputable section

namespace Cert.Near

open Idealize.ShloMosaic Cert.KernelIdeal Cert.KernelIdeal.Gen

/-! ## The sums over the points taken -/

/-- The rows of monomials whose sums over the chosen points the kernel takes: the coordinates, their products, the fields'
    values and their products with the coordinates. -/
def feats (c : FVec Ideal S3x8192 .f32) (u : FVec Ideal S3x8192 .f32) : FVec Ideal S21x8192 .f32 :=
  have c0 : FVec Ideal S1x8192 .f32 := extractStridedSlice S1x8192 ![0, 0] c slices_S3x8192_o0_0_S1x8192
  have c1 : FVec Ideal S1x8192 .f32 := extractStridedSlice S1x8192 ![1, 0] c slices_S3x8192_o1_0_S1x8192
  have c2 : FVec Ideal S1x8192 .f32 := extractStridedSlice S1x8192 ![2, 0] c slices_S3x8192_o2_0_S1x8192
  concatenate S21x8192 0 [⟨S3x8192, c⟩, ⟨S3x8192, mulf (broadcastTo S3x8192 c0 broadcasts_S1x8192_S3x8192) c⟩,
    ⟨S2x8192, mulf (broadcastTo S2x8192 c1 broadcasts_S1x8192_S2x8192)
      (extractStridedSlice S2x8192 ![1, 0] c slices_S3x8192_o1_0_S2x8192)⟩,
    ⟨S1x8192, mulf c2 c2⟩, ⟨S3x8192, u⟩,
    ⟨S3x8192, mulf (broadcastTo S3x8192 c0 broadcasts_S1x8192_S3x8192) u⟩,
    ⟨S3x8192, mulf (broadcastTo S3x8192 c1 broadcasts_S1x8192_S3x8192) u⟩,
    ⟨S3x8192, mulf (broadcastTo S3x8192 c2 broadcasts_S1x8192_S3x8192) u⟩]
    concatenates_S3x8192_S3x8192_S2x8192_S1x8192_S3x8192_S3x8192_S3x8192_S3x8192_S21x8192_d0

section
variable (c u : FVec Ideal S3x8192 .f32) (n : Fin 8192)

/-- The twenty-one monomials of a point, in the order of their rows. -/
def mono (p w : Fin 3 → ℝ) : Fin 21 → ℝ :=
  ![p 0, p 1, p 2, p 0 * p 0, p 0 * p 1, p 0 * p 2, p 1 * p 1, p 1 * p 2, p 2 * p 2, w 0, w 1, w 2,
    p 0 * w 0, p 0 * w 1, p 0 * w 2, p 1 * w 0, p 1 * w 1, p 1 * w 2, p 2 * w 0, p 2 * w 1, p 2 * w 2]

theorem feats_0 : feats c u (ix2 0 n) = c (ix2 0 n) := by pointwise [feats]
theorem feats_1 : feats c u (ix2 1 n) = c (ix2 1 n) := by pointwise [feats]
theorem feats_2 : feats c u (ix2 2 n) = c (ix2 2 n) := by pointwise [feats]
theorem feats_3 : feats c u (ix2 3 n) = c (ix2 0 n) * c (ix2 0 n) := by pointwise [feats]
theorem feats_4 : feats c u (ix2 4 n) = c (ix2 0 n) * c (ix2 1 n) := by pointwise [feats]
theorem feats_5 : feats c u (ix2 5 n) = c (ix2 0 n) * c (ix2 2 n) := by pointwise [feats]
theorem feats_6 : feats c u (ix2 6 n) = c (ix2 1 n) * c (ix2 1 n) := by pointwise [feats]
theorem feats_7 : feats c u (ix2 7 n) = c (ix2 1 n) * c (ix2 2 n) := by pointwise [feats]
theorem feats_8 : feats c u (ix2 8 n) = c (ix2 2 n) * c (ix2 2 n) := by pointwise [feats]
theorem feats_9 : feats c u (ix2 9 n) = u (ix2 0 n) := by pointwise [feats]
theorem feats_10 : feats c u (ix2 10 n) = u (ix2 1 n) := by pointwise [feats]
theorem feats_11 : feats c u (ix2 11 n) = u (ix2 2 n) := by pointwise [feats]
theorem feats_12 : feats c u (ix2 12 n) = c (ix2 0 n) * u (ix2 0 n) := by pointwise [feats]
theorem feats_13 : feats c u (ix2 13 n) = c (ix2 0 n) * u (ix2 1 n) := by pointwise [feats]
theorem feats_14 : feats c u (ix2 14 n) = c (ix2 0 n) * u (ix2 2 n) := by pointwise [feats]
theorem feats_15 : feats c u (ix2 15 n) = c (ix2 1 n) * u (ix2 0 n) := by pointwise [feats]
theorem feats_16 : feats c u (ix2 16 n) = c (ix2 1 n) * u (ix2 1 n) := by pointwise [feats]
theorem feats_17 : feats c u (ix2 17 n) = c (ix2 1 n) * u (ix2 2 n) := by pointwise [feats]
theorem feats_18 : feats c u (ix2 18 n) = c (ix2 2 n) * u (ix2 0 n) := by pointwise [feats]
theorem feats_19 : feats c u (ix2 19 n) = c (ix2 2 n) * u (ix2 1 n) := by pointwise [feats]
theorem feats_20 : feats c u (ix2 20 n) = c (ix2 2 n) * u (ix2 2 n) := by pointwise [feats]

/-- Where the coordinates and the fields of the points are reals, the rows hold their monomials. -/
theorem feats_real (p w : Fin 8192 → Fin 3 → ℝ) (hc : ∀ a, c (ix2 a n) = (p n a : EReal)) (hu : ∀ a, u (ix2 a n) = (w n a : EReal))
    (r : Fin 21) : feats c u (ix2 r n) = (mono (p n) (w n) r : EReal) := by
  rcases r with ⟨r, hr⟩
  interval_cases r
  · exact (feats_0 c u n).trans (by simp only [hc, hu, ← EReal.coe_mul]; rfl)
  · exact (feats_1 c u n).trans (by simp only [hc, hu, ← EReal.coe_mul]; rfl)
  · exact (feats_2 c u n).trans (by simp only [hc, hu, ← EReal.coe_mul]; rfl)
  · exact (feats_3 c u n).trans (by simp only [hc, hu, ← EReal.coe_mul]; rfl)
  · exact (feats_4 c u n).trans (by simp only [hc, hu, ← EReal.coe_mul]; rfl)
  · exact (feats_5 c u n).trans (by simp only [hc, hu, ← EReal.coe_mul]; rfl)
  · exact (feats_6 c u n).trans (by simp only [hc, hu, ← EReal.coe_mul]; rfl)
  · exact (feats_7 c u n).trans (by simp only [hc, hu, ← EReal.coe_mul]; rfl)
  · exact (feats_8 c u n).trans (by simp only [hc, hu, ← EReal.coe_mul]; rfl)
  · exact (feats_9 c u n).trans (by simp only [hc, hu, ← EReal.coe_mul]; rfl)
  · exact (feats_10 c u n).trans (by simp only [hc, hu, ← EReal.coe_mul]; rfl)
  · exact (feats_11 c u n).trans (by simp only [hc, hu, ← EReal.coe_mul]; rfl)
  · exact (feats_12 c u n).trans (by simp only [hc, hu, ← EReal.coe_mul]; rfl)
  · exact (feats_13 c u n).trans (by simp only [hc, hu, ← EReal.coe_mul]; rfl)
  · exact (feats_14 c u n).trans (by simp only [hc, hu, ← EReal.coe_mul]; rfl)
  · exact (feats_15 c u n).trans (by simp only [hc, hu, ← EReal.coe_mul]; rfl)
  · exact (feats_16 c u n).trans (by simp only [hc, hu, ← EReal.coe_mul]; rfl)
  · exact (feats_17 c u n).trans (by simp only [hc, hu, ← EReal.coe_mul]; rfl)
  · exact (feats_18 c u n).trans (by simp only [hc, hu, ← EReal.coe_mul]; rfl)
  · exact (feats_19 c u n).trans (by simp only [hc, hu, ← EReal.coe_mul]; rfl)
  · exact (feats_20 c u n).trans (by simp only [hc, hu, ← EReal.coe_mul]; rfl)
end

/-- The indicator of the points taken. -/
def mask (D : FVec Ideal S8192x512 .f32) : FVec Ideal S8192x512 .f32 :=
  sitofp .f32 (extui 32 (cmpf .oeq D (broadcast S8192x512 (Scalar.ofBits (F := Ideal) .f32 0x7F800000#32))) natLt_1_32)

/-- A bit widened and read as a number. -/
theorem sitofp_bit (b : Bool) : (FloatOps.sitofp .f32 (BitVec.setWidth 32 (BitVec.ofBool b)) : Ideal .f32) = if b then (1 : EReal) else 0 := by
  cases b
  · show (((BitVec.setWidth 32 (BitVec.ofBool false)).toInt : ℝ) : EReal) = _
    have : (BitVec.setWidth 32 (BitVec.ofBool false)).toInt = 0 := by decide
    rw [this]; simp
  · show (((BitVec.setWidth 32 (BitVec.ofBool true)).toInt : ℝ) : EReal) = _
    have : (BitVec.setWidth 32 (BitVec.ofBool true)).toInt = 1 := by decide
    rw [this]; simp

/-- After `k` rounds the indicator is one at the first `k` choices and zero elsewhere. -/
theorem mask_after {δ : Fin 8192 → ℝ} {l : Fin 512} {k : ℕ} {D : FVec Ideal S8192x512 .f32} (h : After δ l k D) (n : Fin 8192) :
    mask D (ix2 n l) = open Classical in if n ∈ taken δ k then (1 : EReal) else 0 := by
  classical
  have e : mask D (ix2 n l) = FloatOps.sitofp FTy.f32
      (BitVec.setWidth 32 (BitVec.ofBool (decide (D (ix2 n l) = Ideal.ofBits FTy.f32 0x7F800000#32)))) := by
    pointwise [mask]
  rw [e, sitofp_bit, ofBits_inf, h]
  by_cases hn : n ∈ taken δ k
  · simp [hn]
  · simp [hn]

theorem pay17_apply (c u : FVec Ideal S3x8192 .f32) (D : FVec Ideal S8192x512 .f32) (h : IVec S8192x512 1) (r : Fin 21) (l : Fin 512) :
    k0_pay17 c u D h (Scalar.ofBits .f32 0x7F800000#32) (ix2 r l)
      = ∑ n : Fin 8192, feats c u (ix2 r n)
          * mask (select h (broadcast S8192x512 (Scalar.ofBits (F := Ideal) .f32 0x7F800000#32)) D) (ix2 n l) := by
  have e : k0_pay17 c u D h (Scalar.ofBits .f32 0x7F800000#32)
    = matmul dot_S21x8192_S8192x512_S21x512_1_0_0_1_n_n (some .fp32) (feats c u)
       (mask (select h (broadcast S8192x512 (Scalar.ofBits (F := Ideal) .f32 0x7F800000#32)) D))
       (constant S21x512 .f32 0x00000000#32) := rfl
  rw [e]
  generalize feats c u = f
  generalize mask _ = g
  pointwise

/-- A sum weighted by the indicator of a set is the sum over the set. -/
theorem sum_indicator (T : Finset (Fin 8192)) (f : Fin 8192 → ℝ) (g : Fin 8192 → EReal)
    (hg : ∀ n, g n = open Classical in if n ∈ T then (1 : EReal) else 0) :
    ∑ n, (f n : EReal) * g n = ((∑ n ∈ T, f n : ℝ) : EReal) := by
  classical
  rw [← sum_coe, ← Finset.sum_filter_add_sum_filter_not Finset.univ (· ∈ T)]
  rw [Finset.sum_congr rfl (g := fun n => (f n : EReal)), Finset.sum_eq_zero (s := Finset.univ.filter (· ∉ T)), add_zero]
  · congr 1; ext n; simp
  · intro n hn; rw [hg, if_neg (by simpa using hn), mul_zero]
  · intro n hn; rw [hg, if_pos (by simpa using hn), mul_one]

/-! ## The block of distances, and the rounds over it -/

variable (x0 : Vec Ideal S1x3x512 .f32) (x1 : Vec Ideal S1x8192x3 .f32) (x2 x3 : Vec Ideal S1x3x8192 .f32)

theorem pay83_eq : k0_pay83 x0 x1 x2 x3 = round (round (round (round (k0_pay80 x0 x1 x2 x3)))) := rfl
theorem pay85_eq : k0_pay85 x0 x1 x2 x3 = round (round (round (round (k0_pay83 x0 x1 x2 x3)))) := rfl
theorem pay87_eq : k0_pay87 x0 x1 x2 x3 = round (round (round (round (k0_pay85 x0 x1 x2 x3)))) := rfl
theorem pay89_eq : k0_pay89 x0 x1 x2 x3 = round (round (round (k0_pay87 x0 x1 x2 x3))) := rfl
theorem last_eq : select (k0_pay90 x0 x1 x2 x3) (broadcast S8192x512 (Scalar.ofBits (F := Ideal) .f32 0x7F800000#32))
    (k0_pay89 x0 x1 x2 x3) = round (k0_pay89 x0 x1 x2 x3) := rfl
theorem pay81_eq : k0_pay81 x0 x1 x2 x3 = shapeCast S1x512 (firstRow (k0_pay80 x0 x1 x2 x3)) Gen.shapeCasts_S512_S1x512 := rfl

/-- The input blocks hold, at query column `l`, the reals `q`, `r` and `u`. -/
structure Holds (l : Fin 512) (q : Fin 3 → ℝ) (r u : Fin 8192 → Fin 3 → ℝ) : Prop where
  h0 : ∀ a, x0 (ix3 0 a l) = (q a : EReal)
  h1 : ∀ n a, x1 (ix3 0 n a) = (r n a : EReal)
  h2 : ∀ n a, x2 (ix3 0 a n) = (r n a : EReal)
  h3 : ∀ n a, x3 (ix3 0 a n) = (u n a : EReal)

variable {x0 x1 x2 x3} {l : Fin 512} {q : Fin 3 → ℝ} {r u : Fin 8192 → Fin 3 → ℝ} (H : Holds x0 x1 x2 x3 l q r u)
include H

/-- The block starts at the distances. -/
theorem Holds.start : After (dists q r) l 0 (k0_pay80 x0 x1 x2 x3) := by
  intro n
  have e : k0_pay80 x0 x1 x2 x3 (ix2 n l) = Ideal.sqrt
      (max (∑ x, x0 (ix3 0 x l) * x0 (ix3 0 x l) + ∑ x, x1 (ix3 0 n x) * x1 (ix3 0 n x) -
          Ideal.ofBits FTy.f32 0x40000000#32 * ∑ x, x1 (ix3 0 n x) * x0 (ix3 0 x l)) 0) := by
    pointwise [k0_pay80, k0_pay6, k0_pay3]
  rw [e]
  simp only [H.h0, H.h1, ofBits_two, ← EReal.coe_mul, sum_coe, ← EReal.coe_add, ← EReal.coe_sub, max_zero_coe]
  rw [sqrt_coe (le_max_right _ _)]
  simp only [taken, Finset.notMem_empty, if_false, dists, dist, mul_comm (q _) (r n _)]

/-- After the sixteen rounds. -/
theorem Holds.finish : After (dists q r) l 16 (round (k0_pay89 x0 x1 x2 x3)) := by
  have h0 := H.start
  have h4 := (((h0.round (by norm_num)).round (by norm_num)).round (by norm_num)).round (by norm_num)
  rw [← pay83_eq] at h4
  have h8 := (((h4.round (by norm_num)).round (by norm_num)).round (by norm_num)).round (by norm_num)
  rw [← pay85_eq] at h8
  have h12 := (((h8.round (by norm_num)).round (by norm_num)).round (by norm_num)).round (by norm_num)
  rw [← pay87_eq] at h12
  have h15 := ((h12.round (by norm_num)).round (by norm_num)).round (by norm_num)
  rw [← pay89_eq] at h15
  exact h15.round (by norm_num)

/-- The kernel's moments are the sums of the monomials over the sixteen nearest points. -/
theorem Holds.moments (i : Fin 21) :
    k0_pay17 (k0_pay78 x0 x1 x2 x3) (k0_pay79 x0 x1 x2 x3) (k0_pay89 x0 x1 x2 x3) (k0_pay90 x0 x1 x2 x3)
      (Scalar.ofBits .f32 0x7F800000#32) (ix2 i l)
      = ((∑ n ∈ taken (dists q r) 16, mono (r n) (u n) i : ℝ) : EReal) := by
  rw [pay17_apply, last_eq]
  have hc : ∀ n a, k0_pay78 x0 x1 x2 x3 (ix2 a n) = (r n a : EReal) := fun n a => by
    rw [← H.h2]; pointwise [k0_pay78, k0_pay4]
  have hu : ∀ n a, k0_pay79 x0 x1 x2 x3 (ix2 a n) = (u n a : EReal) := fun n a => by
    rw [← H.h3]; pointwise [k0_pay79, k0_pay5]
  rw [← sum_indicator _ _ _ (mask_after H.finish)]
  refine Finset.sum_congr rfl fun n _ => ?_
  rw [feats_real _ _ n r u (hc n) (hu n)]

/-- The fields at the nearest point. -/
theorem Holds.fields (c : Fin 3) :
    k0_pay18 (k0_pay79 x0 x1 x2 x3) (k0_pay76 x0 x1 x2 x3) (k0_pay81 x0 x1 x2 x3) (ix2 c l)
      = (u (near q r 0) c : EReal) := by
  classical
  have hu : ∀ n a, k0_pay79 x0 x1 x2 x3 (ix2 a n) = (u n a : EReal) := fun n a => by
    rw [← H.h3]; pointwise [k0_pay79, k0_pay5]
  have hf := H.start.firstRow (by norm_num)
  have e : k0_pay18 (k0_pay79 x0 x1 x2 x3) (k0_pay76 x0 x1 x2 x3) (k0_pay81 x0 x1 x2 x3) (ix2 c l)
      = ∑ n : Fin 8192, k0_pay79 x0 x1 x2 x3 (ix2 c n) * FloatOps.sitofp FTy.f32 (BitVec.setWidth 32
          (IntOp.cmpi .eq (BitVec.ofNat 32 n.val) (firstRow (k0_pay80 x0 x1 x2 x3) (ix1 l)))) := by
    rw [pay81_eq]
    generalize firstRow _ = v
    generalize k0_pay79 x0 x1 x2 x3 = w
    pointwise [k0_pay18, k0_pay76]
  rw [e, hf]
  simp only [hu]
  refine (sum_indicator {near q r 0} (fun n => u n c) _ fun n => ?_).trans (by rw [Finset.sum_singleton])
  have hb : IntOp.cmpi CmpIPredicate.eq (BitVec.ofNat 32 n.val) (BitVec.ofNat 32 (choice (dists q r) 0).val)
      = BitVec.ofBool (decide (n = near q r 0)) := by
    refine congrArg BitVec.ofBool ?_
    rw [Bool.eq_iff_iff, beq_iff_eq, decide_eq_true_iff]
    exact ofNat_inj_small
  rw [hb, sitofp_bit]
  by_cases hn : n = near q r 0
  · simp [hn]
  · simp [hn]

/-! ## The entries of the system at a query point -/

omit H in
/-- A row of lanes holds the real `a` at lane `l`. -/
def Lane (l : Fin 512) (v : FVec Ideal S1x512 .f32) (a : ℝ) : Prop := v (ix2 0 l) = (a : EReal)

omit H in
theorem Lane.of_eq {v : FVec Ideal S1x512 .f32} {a b : ℝ} (h : Lane l v a) (e : a = b) : Lane l v b := e ▸ h

section
omit H
variable {v w s x y : FVec Ideal S1x512 .f32} {a b c d e : ℝ}

theorem Lane.add (hv : Lane l v a) (hw : Lane l w b) : Lane l (addf v w) (a + b) := by
  show v (ix2 0 l) + w (ix2 0 l) = _
  rw [hv, hw, EReal.coe_add]
theorem Lane.sub (hv : Lane l v a) (hw : Lane l w b) : Lane l (subf v w) (a - b) := by
  show v (ix2 0 l) - w (ix2 0 l) = _
  rw [hv, hw, EReal.coe_sub]
theorem Lane.mul (hv : Lane l v a) (hw : Lane l w b) : Lane l (mulf v w) (a * b) := by
  show v (ix2 0 l) * w (ix2 0 l) = _
  rw [hv, hw, EReal.coe_mul]
theorem Lane.abs (hv : Lane l v a) : Lane l (absf v) |a| := by
  show max (v (ix2 0 l)) (-(v (ix2 0 l))) = _
  rw [hv, abs_coe]
theorem Lane.div (hv : Lane l v a) (hw : Lane l w b) (hb : b ≠ 0) : Lane l (divf v w) (a / b) := by
  show Ideal.div (v (ix2 0 l)) (w (ix2 0 l)) = _
  rw [hv, hw, div_coe hb]
theorem Lane.lit {z : BitVec 32} (h : Ideal.ofBits .f32 z = (a : EReal)) :
    Lane l (broadcast S1x512 (Scalar.ofBits (F := Ideal) .f32 z)) a := h

/-- A second moment about a point, from the moments about zero. -/
theorem Lane.entry (hs : Lane l s a) (hv : Lane l v b) (hy : Lane l y c) (hw : Lane l w d) (hx : Lane l x e) :
    Lane l (addf (subf (subf s (mulf v y)) (mulf w x))
      (mulf (mulf (broadcast S1x512 (Scalar.ofBits (F := Ideal) .f32 0x41800000#32)) v) w)) (a - b * c - d * e + 16 * b * d) :=
  ((hs.sub (hv.mul hy)).sub (hw.mul hx)).add (((Lane.lit ofBits_sixteen).mul hv).mul hw)

end

omit H in
/-- A row of lanes as a block of rank four. -/
theorem lane_cast (v : FVec Ideal S1x512 .f32) :
    shapeCast S1x1x1x512 v shapeCasts_S1x512_S1x1x1x512 (ix4 0 0 0 l) = v (ix2 0 l) := by
  pointwise

omit H in
/-- The sum over the sixteen nearest points of a product of differences, from the sums of the products. -/
theorem moment (f g : Fin 8192 → ℝ) (a b : ℝ) :
    (∑ n ∈ taken (dists q r) 16, f n * g n) - a * (∑ n ∈ taken (dists q r) 16, g n) - b * (∑ n ∈ taken (dists q r) 16, f n)
      + 16 * a * b = ∑ k : Fin 16, (f (near q r k) - a) * (g (near q r k) - b) := by
  rw [← second_moment _ 16 (by rw [card_taken _ (by norm_num)]; norm_num)]
  exact sum_taken _ (by norm_num) fun n => (f n - a) * (g n - b)

theorem Holds.q0 : Lane l (k0_pay91 x0 x1 x2 x3) (q 0) := by
  unfold Lane
  rw [← H.h0]
  pointwise [k0_pay91, k0_pay19, k0_pay77, k0_pay3]
theorem Holds.q1 : Lane l (k0_pay92 x0 x1 x2 x3) (q 1) := by
  unfold Lane
  rw [← H.h0]
  pointwise [k0_pay92, k0_pay20, k0_pay77, k0_pay3]
theorem Holds.q2 : Lane l (k0_pay93 x0 x1 x2 x3) (q 2) := by
  unfold Lane
  rw [← H.h0]
  pointwise [k0_pay93, k0_pay21, k0_pay77, k0_pay3]
theorem Holds.g0 : Lane l (k0_pay104 x0 x1 x2 x3) (u (near q r 0) 0) := by
  unfold Lane
  rw [← H.fields]
  pointwise [k0_pay104, k0_pay42]
theorem Holds.g1 : Lane l (k0_pay105 x0 x1 x2 x3) (u (near q r 0) 1) := by
  unfold Lane
  rw [← H.fields]
  pointwise [k0_pay105, k0_pay43]
theorem Holds.g2 : Lane l (k0_pay106 x0 x1 x2 x3) (u (near q r 0) 2) := by
  unfold Lane
  rw [← H.fields]
  pointwise [k0_pay106, k0_pay44]
theorem Holds.s0 : Lane l (k0_pay94 x0 x1 x2 x3) (∑ n ∈ taken (dists q r) 16, mono (r n) (u n) 0) := by
  unfold Lane
  rw [← H.moments]
  pointwise [k0_pay94, k0_pay22]
theorem Holds.s1 : Lane l (k0_pay95 x0 x1 x2 x3) (∑ n ∈ taken (dists q r) 16, mono (r n) (u n) 1) := by
  unfold Lane
  rw [← H.moments]
  pointwise [k0_pay95, k0_pay23]
theorem Holds.s2 : Lane l (k0_pay96 x0 x1 x2 x3) (∑ n ∈ taken (dists q r) 16, mono (r n) (u n) 2) := by
  unfold Lane
  rw [← H.moments]
  pointwise [k0_pay96, k0_pay24]
theorem Holds.s4 : Lane l (k0_pay97 x0 x1 x2 x3) (∑ n ∈ taken (dists q r) 16, mono (r n) (u n) 4) := by
  unfold Lane
  rw [← H.moments]
  pointwise [k0_pay97, k0_pay25]
theorem Holds.s5 : Lane l (k0_pay98 x0 x1 x2 x3) (∑ n ∈ taken (dists q r) 16, mono (r n) (u n) 5) := by
  unfold Lane
  rw [← H.moments]
  pointwise [k0_pay98, k0_pay26]
theorem Holds.s6 : Lane l (k0_pay99 x0 x1 x2 x3) (∑ n ∈ taken (dists q r) 16, mono (r n) (u n) 6) := by
  unfold Lane
  rw [← H.moments]
  pointwise [k0_pay99, k0_pay27]
theorem Holds.s7 : Lane l (k0_pay28 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 7) := by
  unfold Lane
  rw [← H.moments]
  pointwise [k0_pay28]
theorem Holds.s8 : Lane l (k0_pay100 x0 x1 x2 x3) (∑ n ∈ taken (dists q r) 16, mono (r n) (u n) 8) := by
  unfold Lane
  rw [← H.moments]
  pointwise [k0_pay100, k0_pay29]
theorem Holds.s9 : Lane l (k0_pay101 x0 x1 x2 x3) (∑ n ∈ taken (dists q r) 16, mono (r n) (u n) 9) := by
  unfold Lane
  rw [← H.moments]
  pointwise [k0_pay101, k0_pay30]
theorem Holds.s10 : Lane l (k0_pay102 x0 x1 x2 x3) (∑ n ∈ taken (dists q r) 16, mono (r n) (u n) 10) := by
  unfold Lane
  rw [← H.moments]
  pointwise [k0_pay102, k0_pay31]
theorem Holds.s11 : Lane l (k0_pay103 x0 x1 x2 x3) (∑ n ∈ taken (dists q r) 16, mono (r n) (u n) 11) := by
  unfold Lane
  rw [← H.moments]
  pointwise [k0_pay103, k0_pay32]
theorem Holds.s12 : Lane l (k0_pay33 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 12) := by
  unfold Lane
  rw [← H.moments]
  pointwise [k0_pay33]
theorem Holds.s13 : Lane l (k0_pay34 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 13) := by
  unfold Lane
  rw [← H.moments]
  pointwise [k0_pay34]
theorem Holds.s14 : Lane l (k0_pay35 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 14) := by
  unfold Lane
  rw [← H.moments]
  pointwise [k0_pay35]
theorem Holds.s15 : Lane l (k0_pay36 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 15) := by
  unfold Lane
  rw [← H.moments]
  pointwise [k0_pay36]
theorem Holds.s16 : Lane l (k0_pay37 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 16) := by
  unfold Lane
  rw [← H.moments]
  pointwise [k0_pay37]
theorem Holds.s17 : Lane l (k0_pay38 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 17) := by
  unfold Lane
  rw [← H.moments]
  pointwise [k0_pay38]
theorem Holds.s18 : Lane l (k0_pay39 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 18) := by
  unfold Lane
  rw [← H.moments]
  pointwise [k0_pay39]
theorem Holds.s19 : Lane l (k0_pay40 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 19) := by
  unfold Lane
  rw [← H.moments]
  pointwise [k0_pay40]
theorem Holds.s20 : Lane l (k0_pay41 (k0_pay78 x0 x1 x2 x3) (k0_pay79 x0 x1 x2 x3) (k0_pay89 x0 x1 x2 x3) (k0_pay90 x0 x1 x2 x3) (Scalar.ofBits .f32 0x7F800000#32)) (∑ n ∈ taken (dists q r) 16, mono (r n) (u n) 20) := by
  unfold Lane
  rw [← H.moments]
  pointwise [k0_pay41]
theorem Holds.s3 : Lane l (k0_pay107 x0 x1 x2 x3) ((∑ n ∈ taken (dists q r) 16, mono (r n) (u n) 3) - q 0 * ∑ n ∈ taken (dists q r) 16, mono (r n) (u n) 0) := by
  refine Lane.sub ?_ (H.q0.mul H.s0)
  unfold Lane
  rw [← H.moments]
  pointwise

theorem Holds.a00 : Lane l (k0_pay46 (k0_pay91 x0 x1 x2 x3) (k0_pay94 x0 x1 x2 x3) (k0_pay107 x0 x1 x2 x3)) (X q r 0 0) :=
  ((H.s3.sub (H.q0.mul H.s0)).add (((Lane.lit ofBits_sixteen).mul H.q0).mul H.q0)).of_eq (moment (fun n => r n 0) (fun n => r n 0) _ _)
theorem Holds.a01 : Lane l (k0_pay108 x0 x1 x2 x3) (X q r 0 1) :=
  (Lane.entry H.s4 H.q0 H.s1 H.q1 H.s0).of_eq (moment (fun n => r n 0) (fun n => r n 1) _ _)
theorem Holds.a02 : Lane l (k0_pay109 x0 x1 x2 x3) (X q r 0 2) :=
  (Lane.entry H.s5 H.q0 H.s2 H.q2 H.s0).of_eq (moment (fun n => r n 0) (fun n => r n 2) _ _)
theorem Holds.a11 : Lane l (k0_pay49 (k0_pay92 x0 x1 x2 x3) (k0_pay95 x0 x1 x2 x3) (k0_pay99 x0 x1 x2 x3)) (X q r 1 1) :=
  (Lane.entry H.s6 H.q1 H.s1 H.q1 H.s1).of_eq (moment (fun n => r n 1) (fun n => r n 1) _ _)
theorem Holds.a12 : Lane l (k0_pay110 x0 x1 x2 x3) (X q r 1 2) :=
  (Lane.entry H.s7 H.q1 H.s2 H.q2 H.s1).of_eq (moment (fun n => r n 1) (fun n => r n 2) _ _)
theorem Holds.a22 : Lane l (k0_pay51 (k0_pay93 x0 x1 x2 x3) (k0_pay96 x0 x1 x2 x3) (k0_pay100 x0 x1 x2 x3)) (X q r 2 2) :=
  (Lane.entry H.s8 H.q2 H.s2 H.q2 H.s2).of_eq (moment (fun n => r n 2) (fun n => r n 2) _ _)

/-- What is added to the diagonal. -/
theorem Holds.shift : Lane l (k0_pay54 (k0_pay110 x0 x1 x2 x3) (k0_pay111 x0 x1 x2 x3) (k0_pay112 x0 x1 x2 x3)) (shift q r) := by
  refine ((Lane.lit ofBits_ridge).mul ((((H.a00.abs.add H.a11.abs).add H.a22.abs).add ((Lane.lit ofBits_two).mul
    ((H.a01.abs.add H.a02.abs).add H.a12.abs))).div (Lane.lit ofBits_nine) (by norm_num) |>.add (Lane.lit ofBits_eps))).of_eq ?_
  unfold Near.shift
  simp only [Fin.sum_univ_three, X_symm q r 1 0, X_symm q r 2 0, X_symm q r 2 1]
  ring

theorem Holds.d0 : Lane l (k0_pay113 x0 x1 x2 x3) (X q r 0 0 + Near.shift q r) := H.a00.add H.shift
theorem Holds.d1 : Lane l (k0_pay114 x0 x1 x2 x3) (X q r 1 1 + Near.shift q r) := H.a11.add H.shift
theorem Holds.d2 : Lane l (k0_pay115 x0 x1 x2 x3) (X q r 2 2 + Near.shift q r) := H.a22.add H.shift

theorem Holds.y00 : Lane l (k0_pay58 (k0_pay91 x0 x1 x2 x3) (k0_pay94 x0 x1 x2 x3) (k0_pay101 x0 x1 x2 x3) (k0_pay33 (k0_pay78 x0 x1 x2 x3) (k0_pay79 x0 x1 x2 x3) (k0_pay89 x0 x1 x2 x3) (k0_pay90 x0 x1 x2 x3) (Scalar.ofBits .f32 0x7F800000#32)) (k0_pay104 x0 x1 x2 x3)) (Y q r u 0 0) :=
  (Lane.entry H.s12 H.q0 H.s9 H.g0 H.s0).of_eq (moment (fun n => r n 0) (fun n => u n 0) _ _)
theorem Holds.y01 : Lane l (k0_pay59 (k0_pay91 x0 x1 x2 x3) (k0_pay94 x0 x1 x2 x3) (k0_pay102 x0 x1 x2 x3) (k0_pay34 (k0_pay78 x0 x1 x2 x3) (k0_pay79 x0 x1 x2 x3) (k0_pay89 x0 x1 x2 x3) (k0_pay90 x0 x1 x2 x3) (Scalar.ofBits .f32 0x7F800000#32)) (k0_pay105 x0 x1 x2 x3)) (Y q r u 0 1) :=
  (Lane.entry H.s13 H.q0 H.s10 H.g1 H.s0).of_eq (moment (fun n => r n 0) (fun n => u n 1) _ _)
theorem Holds.y02 : Lane l (k0_pay60 (k0_pay91 x0 x1 x2 x3) (k0_pay94 x0 x1 x2 x3) (k0_pay103 x0 x1 x2 x3) (k0_pay35 (k0_pay78 x0 x1 x2 x3) (k0_pay79 x0 x1 x2 x3) (k0_pay89 x0 x1 x2 x3) (k0_pay90 x0 x1 x2 x3) (Scalar.ofBits .f32 0x7F800000#32)) (k0_pay106 x0 x1 x2 x3)) (Y q r u 0 2) :=
  (Lane.entry H.s14 H.q0 H.s11 H.g2 H.s0).of_eq (moment (fun n => r n 0) (fun n => u n 2) _ _)
theorem Holds.y10 : Lane l (k0_pay61 (k0_pay92 x0 x1 x2 x3) (k0_pay95 x0 x1 x2 x3) (k0_pay101 x0 x1 x2 x3) (k0_pay36 (k0_pay78 x0 x1 x2 x3) (k0_pay79 x0 x1 x2 x3) (k0_pay89 x0 x1 x2 x3) (k0_pay90 x0 x1 x2 x3) (Scalar.ofBits .f32 0x7F800000#32)) (k0_pay104 x0 x1 x2 x3)) (Y q r u 1 0) :=
  (Lane.entry H.s15 H.q1 H.s9 H.g0 H.s1).of_eq (moment (fun n => r n 1) (fun n => u n 0) _ _)
theorem Holds.y11 : Lane l (k0_pay64 (k0_pay92 x0 x1 x2 x3) (k0_pay105 x0 x1 x2 x3) (k0_pay62 (k0_pay92 x0 x1 x2 x3) (k0_pay95 x0 x1 x2 x3) (k0_pay102 x0 x1 x2 x3) (k0_pay37 (k0_pay78 x0 x1 x2 x3) (k0_pay79 x0 x1 x2 x3) (k0_pay89 x0 x1 x2 x3) (k0_pay90 x0 x1 x2 x3) (Scalar.ofBits .f32 0x7F800000#32)) (k0_pay105 x0 x1 x2 x3)) k0_pay63) (Y q r u 1 1) :=
  (Lane.entry H.s16 H.q1 H.s10 H.g1 H.s1).of_eq (moment (fun n => r n 1) (fun n => u n 1) _ _)
theorem Holds.y12 : Lane l (k0_pay65 (k0_pay92 x0 x1 x2 x3) (k0_pay95 x0 x1 x2 x3) (k0_pay103 x0 x1 x2 x3) (k0_pay38 (k0_pay78 x0 x1 x2 x3) (k0_pay79 x0 x1 x2 x3) (k0_pay89 x0 x1 x2 x3) (k0_pay90 x0 x1 x2 x3) (Scalar.ofBits .f32 0x7F800000#32)) (k0_pay106 x0 x1 x2 x3)) (Y q r u 1 2) :=
  (Lane.entry H.s17 H.q1 H.s11 H.g2 H.s1).of_eq (moment (fun n => r n 1) (fun n => u n 2) _ _)
theorem Holds.y20 : Lane l (k0_pay66 (k0_pay93 x0 x1 x2 x3) (k0_pay96 x0 x1 x2 x3) (k0_pay101 x0 x1 x2 x3) (k0_pay39 (k0_pay78 x0 x1 x2 x3) (k0_pay79 x0 x1 x2 x3) (k0_pay89 x0 x1 x2 x3) (k0_pay90 x0 x1 x2 x3) (Scalar.ofBits .f32 0x7F800000#32)) (k0_pay104 x0 x1 x2 x3)) (Y q r u 2 0) :=
  (Lane.entry H.s18 H.q2 H.s9 H.g0 H.s2).of_eq (moment (fun n => r n 2) (fun n => u n 0) _ _)
theorem Holds.y21 : Lane l (k0_pay67 (k0_pay93 x0 x1 x2 x3) (k0_pay96 x0 x1 x2 x3) (k0_pay102 x0 x1 x2 x3) (k0_pay40 (k0_pay78 x0 x1 x2 x3) (k0_pay79 x0 x1 x2 x3) (k0_pay89 x0 x1 x2 x3) (k0_pay90 x0 x1 x2 x3) (Scalar.ofBits .f32 0x7F800000#32)) (k0_pay105 x0 x1 x2 x3)) (Y q r u 2 1) :=
  (Lane.entry H.s19 H.q2 H.s10 H.g1 H.s2).of_eq (moment (fun n => r n 2) (fun n => u n 1) _ _)
theorem Holds.y22 : Lane l (k0_pay68 (k0_pay93 x0 x1 x2 x3) (k0_pay96 x0 x1 x2 x3) (k0_pay103 x0 x1 x2 x3) (k0_pay41 (k0_pay78 x0 x1 x2 x3) (k0_pay79 x0 x1 x2 x3) (k0_pay89 x0 x1 x2 x3) (k0_pay90 x0 x1 x2 x3) (Scalar.ofBits .f32 0x7F800000#32)) (k0_pay106 x0 x1 x2 x3)) (Y q r u 2 2) :=
  (Lane.entry H.s20 H.q2 H.s11 H.g2 H.s2).of_eq (moment (fun n => r n 2) (fun n => u n 2) _ _)

theorem Holds.c00 : Lane l (k0_pay69 (k0_pay110 x0 x1 x2 x3) (k0_pay114 x0 x1 x2 x3) (k0_pay115 x0 x1 x2 x3)) ((X q r 1 1 + Near.shift q r) * (X q r 2 2 + Near.shift q r) - X q r 1 2 * X q r 1 2) := (H.d1.mul H.d2).sub (H.a12.mul H.a12)
theorem Holds.c01 : Lane l (k0_pay70 (k0_pay108 x0 x1 x2 x3) (k0_pay109 x0 x1 x2 x3) (k0_pay110 x0 x1 x2 x3) (k0_pay115 x0 x1 x2 x3)) (X q r 0 2 * X q r 1 2 - X q r 0 1 * (X q r 2 2 + Near.shift q r)) := (H.a02.mul H.a12).sub (H.a01.mul H.d2)
theorem Holds.c02 : Lane l (k0_pay116 x0 x1 x2 x3) (X q r 0 1 * X q r 1 2 - (X q r 1 1 + Near.shift q r) * X q r 0 2) := (H.a01.mul H.a12).sub (H.d1.mul H.a02)
theorem Holds.c11 : Lane l (k0_pay72 (k0_pay109 x0 x1 x2 x3) (k0_pay113 x0 x1 x2 x3) (k0_pay115 x0 x1 x2 x3)) ((X q r 0 0 + Near.shift q r) * (X q r 2 2 + Near.shift q r) - X q r 0 2 * X q r 0 2) := (H.d0.mul H.d2).sub (H.a02.mul H.a02)
theorem Holds.c12 : Lane l (k0_pay73 (k0_pay108 x0 x1 x2 x3) (k0_pay109 x0 x1 x2 x3) (k0_pay110 x0 x1 x2 x3) (k0_pay113 x0 x1 x2 x3)) (X q r 0 1 * X q r 0 2 - (X q r 0 0 + Near.shift q r) * X q r 1 2) := (H.a01.mul H.a02).sub (H.d0.mul H.a12)
theorem Holds.c22 : Lane l (k0_pay74 (k0_pay108 x0 x1 x2 x3) (k0_pay113 x0 x1 x2 x3) (k0_pay114 x0 x1 x2 x3)) ((X q r 0 0 + Near.shift q r) * (X q r 1 1 + Near.shift q r) - X q r 0 1 * X q r 0 1) := (H.d0.mul H.d1).sub (H.a01.mul H.a01)

/-- The quotient at the query point. -/
theorem Holds.quot : Lane l (divf
    (addf (addf (addf (addf (k0_pay1 (k0_pay58 (k0_pay91 x0 x1 x2 x3) (k0_pay94 x0 x1 x2 x3) (k0_pay101 x0 x1 x2 x3) (k0_pay33 (k0_pay78 x0 x1 x2 x3) (k0_pay79 x0 x1 x2 x3) (k0_pay89 x0 x1 x2 x3) (k0_pay90 x0 x1 x2 x3) (Scalar.ofBits .f32 0x7F800000#32)) (k0_pay104 x0 x1 x2 x3)) (k0_pay59 (k0_pay91 x0 x1 x2 x3) (k0_pay94 x0 x1 x2 x3) (k0_pay102 x0 x1 x2 x3) (k0_pay34 (k0_pay78 x0 x1 x2 x3) (k0_pay79 x0 x1 x2 x3) (k0_pay89 x0 x1 x2 x3) (k0_pay90 x0 x1 x2 x3) (Scalar.ofBits .f32 0x7F800000#32)) (k0_pay105 x0 x1 x2 x3)) (k0_pay61 (k0_pay92 x0 x1 x2 x3) (k0_pay95 x0 x1 x2 x3) (k0_pay101 x0 x1 x2 x3) (k0_pay36 (k0_pay78 x0 x1 x2 x3) (k0_pay79 x0 x1 x2 x3) (k0_pay89 x0 x1 x2 x3) (k0_pay90 x0 x1 x2 x3) (Scalar.ofBits .f32 0x7F800000#32)) (k0_pay104 x0 x1 x2 x3)) (k0_pay64 (k0_pay92 x0 x1 x2 x3) (k0_pay105 x0 x1 x2 x3) (k0_pay62 (k0_pay92 x0 x1 x2 x3) (k0_pay95 x0 x1 x2 x3) (k0_pay102 x0 x1 x2 x3) (k0_pay37 (k0_pay78 x0 x1 x2 x3) (k0_pay79 x0 x1 x2 x3) (k0_pay89 x0 x1 x2 x3) (k0_pay90 x0 x1 x2 x3) (Scalar.ofBits .f32 0x7F800000#32)) (k0_pay105 x0 x1 x2 x3)) k0_pay63) (k0_pay66 (k0_pay93 x0 x1 x2 x3) (k0_pay96 x0 x1 x2 x3) (k0_pay101 x0 x1 x2 x3) (k0_pay39 (k0_pay78 x0 x1 x2 x3) (k0_pay79 x0 x1 x2 x3) (k0_pay89 x0 x1 x2 x3) (k0_pay90 x0 x1 x2 x3) (Scalar.ofBits .f32 0x7F800000#32)) (k0_pay104 x0 x1 x2 x3)) (k0_pay69 (k0_pay110 x0 x1 x2 x3) (k0_pay114 x0 x1 x2 x3) (k0_pay115 x0 x1 x2 x3)) (k0_pay70 (k0_pay108 x0 x1 x2 x3) (k0_pay109 x0 x1 x2 x3) (k0_pay110 x0 x1 x2 x3) (k0_pay115 x0 x1 x2 x3)) (k0_pay116 x0 x1 x2 x3) (k0_pay72 (k0_pay109 x0 x1 x2 x3) (k0_pay113 x0 x1 x2 x3) (k0_pay115 x0 x1 x2 x3)))
      (mulf (k0_pay73 (k0_pay108 x0 x1 x2 x3) (k0_pay109 x0 x1 x2 x3) (k0_pay110 x0 x1 x2 x3) (k0_pay113 x0 x1 x2 x3)) (k0_pay67 (k0_pay93 x0 x1 x2 x3) (k0_pay96 x0 x1 x2 x3) (k0_pay102 x0 x1 x2 x3) (k0_pay40 (k0_pay78 x0 x1 x2 x3) (k0_pay79 x0 x1 x2 x3) (k0_pay89 x0 x1 x2 x3) (k0_pay90 x0 x1 x2 x3) (Scalar.ofBits .f32 0x7F800000#32)) (k0_pay105 x0 x1 x2 x3))))
      (mulf (k0_pay116 x0 x1 x2 x3) (k0_pay60 (k0_pay91 x0 x1 x2 x3) (k0_pay94 x0 x1 x2 x3) (k0_pay103 x0 x1 x2 x3) (k0_pay35 (k0_pay78 x0 x1 x2 x3) (k0_pay79 x0 x1 x2 x3) (k0_pay89 x0 x1 x2 x3) (k0_pay90 x0 x1 x2 x3) (Scalar.ofBits .f32 0x7F800000#32)) (k0_pay106 x0 x1 x2 x3))))
      (mulf (k0_pay73 (k0_pay108 x0 x1 x2 x3) (k0_pay109 x0 x1 x2 x3) (k0_pay110 x0 x1 x2 x3) (k0_pay113 x0 x1 x2 x3)) (k0_pay65 (k0_pay92 x0 x1 x2 x3) (k0_pay95 x0 x1 x2 x3) (k0_pay103 x0 x1 x2 x3) (k0_pay38 (k0_pay78 x0 x1 x2 x3) (k0_pay79 x0 x1 x2 x3) (k0_pay89 x0 x1 x2 x3) (k0_pay90 x0 x1 x2 x3) (Scalar.ofBits .f32 0x7F800000#32)) (k0_pay106 x0 x1 x2 x3))))
      (mulf (k0_pay74 (k0_pay108 x0 x1 x2 x3) (k0_pay113 x0 x1 x2 x3) (k0_pay114 x0 x1 x2 x3)) (k0_pay68 (k0_pay93 x0 x1 x2 x3) (k0_pay96 x0 x1 x2 x3) (k0_pay103 x0 x1 x2 x3) (k0_pay41 (k0_pay78 x0 x1 x2 x3) (k0_pay79 x0 x1 x2 x3) (k0_pay89 x0 x1 x2 x3) (k0_pay90 x0 x1 x2 x3) (Scalar.ofBits .f32 0x7F800000#32)) (k0_pay106 x0 x1 x2 x3))))
    (addf (k0_pay75 (k0_pay108 x0 x1 x2 x3) (k0_pay109 x0 x1 x2 x3) (k0_pay110 x0 x1 x2 x3) (k0_pay113 x0 x1 x2 x3) (k0_pay114 x0 x1 x2 x3) (k0_pay115 x0 x1 x2 x3))
      (mulf (k0_pay109 x0 x1 x2 x3) (k0_pay116 x0 x1 x2 x3)))) (divergence q r u) :=
  (((((((((H.c00.mul H.y00).add (H.c01.mul H.y10)).add (H.c02.mul H.y20)).add (H.c01.mul H.y01)).add (H.c11.mul H.y11)).add
    (H.c12.mul H.y21)).add (H.c02.mul H.y02)).add (H.c12.mul H.y12)).add (H.c22.mul H.y22)).div
    (((H.d0.mul H.c00).add (H.a01.mul H.c01)).add (H.a02.mul H.c02)) (minors q r).2.2.ne'

/-- The kernel's output block at a query point. -/
theorem Holds.out : out0_4 x0 x1 x2 x3 (ix4 0 0 0 l) = ((divergence q r u * divergence q r u : ℝ) : EReal) := by
  unfold out0_4
  have e : r0_3.emb (ix4 0 0 0 l) = ix4 0 0 0 l := funext fun a => Fin.ext (by
    have z : ∀ a : Fin 4, (![0, 0, 0, 0] : Fin 4 → ℕ) a = 0 := by decide
    show (![0, 0, 0, 0] : Fin 4 → ℕ) a + 1 * _ = _
    rw [z a, Nat.zero_add, Nat.one_mul])
  rw [← e, View.canon_cons_emb]
  exact (lane_cast _).trans (H.quot.mul H.quot)

end Cert.Near

end
-- ==== Proof.KerRun.lean ====
/-
  The idealized kernel's run: the result is the mean over the query points of the squared divergence, where the arguments
  are real.
-/
module

public import proofs.«01_k».proof.Proof.KerBlock
public import Idealize.ShloMosaic.Lib.Claim
public import Idealize.ShloMosaic.Lib.Pipeline.Value
public import Idealize.ShloMosaic.Lib.ValueIdxCore

@[expose] public section

set_option maxRecDepth 16384

noncomputable section

namespace Cert.Near

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- Each window's block index at a grid point: the batch, and the block of queries. -/
theorem windows : ∀ t : Fin cfg0.N,
    (win0_0.index t (0 : Fin 3) = t.val / 4 ∧ win0_0.index t (1 : Fin 3) = 0 ∧ win0_0.index t (2 : Fin 3) = t.val % 4)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 4) = t.val / 4 ∧ win0_4.index t (1 : Fin 4) = t.val % 4 ∧ win0_4.index t (2 : Fin 4) = 0 ∧ win0_4.index t (3 : Fin 4) = 0) :=
  (by decide +kernel : ∀ t : Fin grid0.N, _)

theorem points : cfg0.N = 16 := by decide

/-- The batch and the block of queries of a grid point. -/
def batch (t : Fin cfg0.N) : Fin 4 := ⟨t.val / 4, by have := t.isLt; have := points; omega⟩
def part (t : Fin cfg0.N) : Fin 4 := ⟨t.val % 4, by omega⟩

/-- Query `l` of block `j`. -/
def query (j : Fin 4) (l : Fin 512) : Fin 2048 := ⟨j.val * 512 + l.val, by omega⟩

theorem iblk0_apply (c : Dev nD) (t : Fin cfg0.N) (a : Fin 3) (l : Fin 512) :
    iblk m c 0 t (ix3 0 a l) = V m c main_v0 (ix3 (batch t) a (query (part t) l)) := by
  obtain ⟨e0, e1, e2⟩ := (windows t).1
  refine congrArg (V m c main_v0) (funext fun k => Fin.ext ?_)
  match k with
  | ⟨0, _⟩ => show win0_0.index t (0 : Fin 3) * 1 + 1 * 0 = t.val / 4; omega
  | ⟨1, _⟩ => show win0_0.index t (1 : Fin 3) * 3 + 1 * a.val = a.val; omega
  | ⟨2, _⟩ => show win0_0.index t (2 : Fin 3) * 512 + 1 * l.val = t.val % 4 * 512 + l.val; omega

theorem iblk1_apply (c : Dev nD) (t : Fin cfg0.N) (n : Fin 8192) (a : Fin 3) :
    iblk m c 1 t (ix3 0 n a) = V m c main_arg1 (ix3 (batch t) n a) := by
  obtain ⟨e0, e1, e2⟩ := (windows t).2.1
  refine congrArg (V m c main_arg1) (funext fun k => Fin.ext ?_)
  match k with
  | ⟨0, _⟩ => show win0_1.index t (0 : Fin 3) * 1 + 1 * 0 = t.val / 4; omega
  | ⟨1, _⟩ => show win0_1.index t (1 : Fin 3) * 8192 + 1 * n.val = n.val; omega
  | ⟨2, _⟩ => show win0_1.index t (2 : Fin 3) * 3 + 1 * a.val = a.val; omega

theorem iblk2_apply (c : Dev nD) (t : Fin cfg0.N) (n : Fin 8192) (a : Fin 3) :
    iblk m c 2 t (ix3 0 a n) = V m c main_v1 (ix3 (batch t) a n) := by
  obtain ⟨e0, e1, e2⟩ := (windows t).2.2.1
  refine congrArg (V m c main_v1) (funext fun k => Fin.ext ?_)
  match k with
  | ⟨0, _⟩ => show win0_2.index t (0 : Fin 3) * 1 + 1 * 0 = t.val / 4; omega
  | ⟨1, _⟩ => show win0_2.index t (1 : Fin 3) * 3 + 1 * a.val = a.val; omega
  | ⟨2, _⟩ => show win0_2.index t (2 : Fin 3) * 8192 + 1 * n.val = n.val; omega

theorem iblk3_apply (c : Dev nD) (t : Fin cfg0.N) (n : Fin 8192) (a : Fin 3) :
    iblk m c 3 t (ix3 0 a n) = V m c main_v2 (ix3 (batch t) a n) := by
  obtain ⟨e0, e1, e2⟩ := (windows t).2.2.2.1
  refine congrArg (V m c main_v2) (funext fun k => Fin.ext ?_)
  match k with
  | ⟨0, _⟩ => show win0_3.index t (0 : Fin 3) * 1 + 1 * 0 = t.val / 4; omega
  | ⟨1, _⟩ => show win0_3.index t (1 : Fin 3) * 3 + 1 * a.val = a.val; omega
  | ⟨2, _⟩ => show win0_3.index t (2 : Fin 3) * 8192 + 1 * n.val = n.val; omega

/-- The three transposed arrays at an index. -/
theorem V_v0 (c : Dev nD) (b : Fin 4) (a : Fin 3) (i : Fin 2048) :
    V m c main_v0 (ix3 b a i) = m ((c : Thread nD τ).loc main_arg0) (ix3 b i a) := by
  show StableHlo.after hostOps0 (fun b => m (c, b)) (Proc.devRef .tc main_v0) _ = _
  entry_read
  pointwise
theorem V_v1 (c : Dev nD) (b : Fin 4) (a : Fin 3) (i : Fin 8192) :
    V m c main_v1 (ix3 b a i) = m ((c : Thread nD τ).loc main_arg1) (ix3 b i a) := by
  show StableHlo.after hostOps0 (fun b => m (c, b)) (Proc.devRef .tc main_v1) _ = _
  entry_read
  pointwise
theorem V_v2 (c : Dev nD) (b : Fin 4) (a : Fin 3) (i : Fin 8192) :
    V m c main_v2 (ix3 b a i) = m ((c : Thread nD τ).loc main_arg2) (ix3 b i a) := by
  show StableHlo.after hostOps0 (fun b => m (c, b)) (Proc.devRef .tc main_v2) _ = _
  entry_read
  pointwise

variable (Q : Fin 4 → Fin 2048 → Fin 3 → ℝ) (R U : Fin 4 → Fin 8192 → Fin 3 → ℝ)

/-- The squared divergence at every query point, as the kernel lays it out. -/
def squares : Vec Ideal S4x4x1x512 .f32 := fun i =>
  ((divergence (Q (i 0) (query (i 1) (i 3))) (R (i 0)) (U (i 0)) * divergence (Q (i 0) (query (i 1) (i 3))) (R (i 0)) (U (i 0)) : ℝ) : EReal)

/-- The queries, block by block. -/
theorem sum_queries (f : Fin 2048 → ℝ) : ∑ j : Fin 4, ∑ l : Fin 512, f (query j l) = ∑ i, f i := by
  rw [← Fintype.sum_prod_type']
  refine Fintype.sum_equiv (finProdFinEquiv : Fin 4 × Fin 512 ≃ Fin 2048) _ _ fun p => congrArg f (Fin.ext ?_)
  show p.1.val * 512 + p.2.val = p.2.val + 512 * p.1.val
  omega

/-- An index of a grid point's block of the result, placed in the array. -/
theorem emb4 (t : Fin cfg0.N) (j : S1x1x1x512.Idx) : ((cfg0.win 4).blk t).view.emb j = ix4 (batch t) (part t) 0 (j 3) := by
  obtain ⟨e0, e1, e2, e3⟩ := (windows t).2.2.2.2
  have h0 : (j 0).val < 1 := (j 0).isLt
  have h1 : (j 1).val < 1 := (j 1).isLt
  have h2 : (j 2).val < 1 := (j 2).isLt
  funext k; apply Fin.ext
  match k with
  | ⟨0, _⟩ => show win0_4.index t (0 : Fin 4) * 1 + 1 * (j 0).val = t.val / 4; omega
  | ⟨1, _⟩ => show win0_4.index t (1 : Fin 4) * 1 + 1 * (j 1).val = t.val % 4; omega
  | ⟨2, _⟩ => show win0_4.index t (2 : Fin 4) * 1 + 1 * (j 2).val = 0; omega
  | ⟨3, _⟩ => show win0_4.index t (3 : Fin 4) * 512 + 1 * (j 3).val = (j 3).val; omega

/-- Every index of the result is in a grid point's block. -/
theorem covered (i : S4x4x1x512.Idx) : ∃ t : Fin cfg0.N, (cfg0.win 4).flush t = true ∧ i ∈ ((cfg0.win 4).blk t).view.set := by
  have h0 : (i 0).val < 4 := (i 0).isLt
  have h1 : (i 1).val < 4 := (i 1).isLt
  have h2 : (i 2).val < 1 := (i 2).isLt
  have ht : (i 0).val * 4 + (i 1).val < cfg0.N := by rw [points]; omega
  have key : ∀ t : Fin cfg0.N, t.val / 4 = (i 0).val → t.val % 4 = (i 1).val → i ∈ ((cfg0.win 4).blk t).view.set := by
    intro t e0 e1
    have h := ((cfg0.win 4).blk t).view.emb_mem_set (ix4 0 0 0 (i 3) : S1x1x1x512.Idx)
    rw [emb4] at h
    have e : ix4 (batch t) (part t) 0 (i 3) = i := funext fun k => Fin.ext (by
      match k with
      | ⟨0, _⟩ => exact e0
      | ⟨1, _⟩ => exact e1
      | ⟨2, _⟩ => show 0 = (i 2).val; omega
      | ⟨3, _⟩ => rfl)
    exact e ▸ h
  exact ⟨⟨_, ht⟩, flush0_4 _, key _ (by show ((i 0).val * 4 + (i 1).val) / 4 = _; omega) (by show ((i 0).val * 4 + (i 1).val) % 4 = _; omega)⟩

variable {Q R U} (c : Dev nD) (hQ : ∀ b i a, m ((c : Thread nD τ).loc main_arg0) (ix3 b i a) = (Q b i a : EReal))
  (hR : ∀ b i a, m ((c : Thread nD τ).loc main_arg1) (ix3 b i a) = (R b i a : EReal))
  (hU : ∀ b i a, m ((c : Thread nD τ).loc main_arg2) (ix3 b i a) = (U b i a : EReal))
include hQ hR hU

/-- The body's output at a grid point. -/
theorem block_eq (t : Fin cfg0.N) (l : Fin 512) :
    out0_4 (iblk m c 0 t) (iblk m c 1 t) (iblk m c 2 t) (iblk m c 3 t) (ix4 0 0 0 l) = squares Q R U (ix4 (batch t) (part t) 0 l) :=
  Holds.out (q := Q (batch t) (query (part t) l)) (r := R (batch t)) (u := U (batch t))
    ⟨fun a => (iblk0_apply m c t a l).trans ((V_v0 m c _ _ _).trans (hQ _ _ _)),
      fun n a => (iblk1_apply m c t n a).trans ((congrFun (V_main_arg1 m c) _).trans (hR _ _ _)),
      fun n a => (iblk2_apply m c t n a).trans ((V_v1 m c _ _ _).trans (hR _ _ _)),
      fun n a => (iblk3_apply m c t n a).trans ((V_v2 m c _ _ _).trans (hU _ _ _))⟩

/-- What a grid point writes back is its block of the squared divergences. -/
theorem flushed_eq (t : Fin cfg0.N) :
    (dats m 0 c).flushed 4 t = ((cfg0.win 4).blk t).view.read (Elt Ideal) (squares Q R U) := by
  show (cfg0.win 4).cut (grid0.coords t) ((dats m 0 c).after 4 t) = _
  rw [after0_4]
  have h : ∀ j : S1x1x1x512.Idx, out0_4 (iblk m c 0 t) (iblk m c 1 t) (iblk m c 2 t) (iblk m c 3 t) j
      = squares Q R U (((cfg0.win 4).blk t).view.emb j) := fun j => by
    have h0 : (j 0).val < 1 := (j 0).isLt
    have h1 : (j 1).val < 1 := (j 1).isLt
    have h2 : (j 2).val < 1 := (j 2).isLt
    have e : j = ix4 0 0 0 (j 3) := funext fun k => Fin.ext (by
      match k with
      | ⟨0, _⟩ => show (j 0).val = 0; omega
      | ⟨1, _⟩ => show (j 1).val = 0; omega
      | ⟨2, _⟩ => show (j 2).val = 0; omega
      | ⟨3, _⟩ => rfl)
    rw [emb4 t j]
    exact (congrArg _ e).trans (block_eq m c hQ hR hU t (j 3))
  exact funext h

theorem final4 : (dats m 0 c).arrAt 4 cfg0.N = squares Q R U :=
  (dats m 0 c).arrAt_eq_of_cover 4 _ (fun t _ => flushed_eq m c hQ hR hU t) covered

/-- The mean that the lines after the kernel take. -/
theorem tail : Pipeline.afterTail₀ cfgs (dats m) 0 (V0 m) [hostOps1] c main_v5 = fun _ => ((loss Q R U : ℝ) : EReal) := by
  unfold Pipeline.afterTail₀
  have h3 := (Pipeline.withArrays_arr (cfgs 0).spec launch0.win.arr_inj c (V0 m c) (fun w => (dats m 0 c).arrAt w (cfgs 0).N) 4).trans
    (final4 m c hQ hR hU)
  generalize Pipeline.withArrays _ _ _ _ = W at h3 ⊢
  have h3' : W (Proc.devRef .tc main_v3) = squares Q R U := h3
  show StableHlo.after hostOps1 W (Proc.devRef .tc main_v5) = _
  entry_read
  rw [h3']
  funext j
  pointwise
  rw [Ideal.hostReduceAdd_total _ (fun b => b.elim0), sum_idx4, zero_add, ofBits_8192]
  have e : ∀ (b j : Fin 4) (z : Fin 1) (l : Fin 512), squares Q R U (ix4 b j z l)
      = ((divergence (Q b (query j l)) (R b) (U b) * divergence (Q b (query j l)) (R b) (U b) : ℝ) : EReal) := fun _ _ _ _ => rfl
  simp only [e, Fin.sum_univ_one, sum_coe]
  rw [div_coe (by norm_num)]
  unfold loss
  simp only [← sum_queries]

omit hQ hR hU in
/-- The run: the result at the mean, the arguments unchanged. -/
theorem run (Q : Dev nD → Fin 4 → Fin 2048 → Fin 3 → ℝ) (R U : Dev nD → Fin 4 → Fin 8192 → Fin 3 → ℝ)
    (hQ : ∀ (c : Dev nD) b i a, m ((c : Thread nD τ).loc main_arg0) (ix3 b i a) = (Q c b i a : EReal))
    (hR : ∀ (c : Dev nD) b i a, m ((c : Thread nD τ).loc main_arg1) (ix3 b i a) = (R c b i a : EReal))
    (hU : ∀ (c : Dev nD) b i a, m ((c : Thread nD τ).loc main_arg2) (ix3 b i a) = (U c b i a : EReal)) :
    θ_run defs (onTc (τ := τ) (main (F := Ideal))) ⟨m, fun _ => 0, ρ⟩ fun r => ∀ c : Dev nD,
      r.2.mem ((c : Thread nD τ).loc main_v5) = (fun _ => ((loss (Q c) (R c) (U c) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v5 (Pipeline.mem_restRefs_of main_v5 (by decide) (by decide))).trans
      (tail m c (hQ c) (hR c) (hU c)), h.2 c⟩)
    (θ_run_and (Gen.run_main m ρ) (Gen.unchanged m ρ))

end Cert.Near

end
-- ==== Proof.RefRun.lean ====
module

public import proofs.«01_k».proof.Proof.Gen.ReferenceIdeal
public import Idealize.ShloMosaic.Lib.StableHlo.Run
public import Idealize.ShloMosaic.Lib.Quiescent

/-!
# The run of the reference

The reference is a straight line of host operations. They are listed here in six groups, one for each step of the
mathematics, and `run` says that every execution of the reference ends with each buffer holding what the six groups
leave there, one after the other, from the memory at launch.
-/

@[expose] public section

noncomputable section

namespace Cert.NearRef

open Cert.ReferenceIdeal Cert.ReferenceIdeal.Gen Idealize.ShloMosaic Idealize.ShloMosaic.TcCoe Idealize.SL.Sem
open Idealize.ShloMosaic.StableHlo

variable {F : FTy → Type} [FloatOps F]

/-- The operations that compute the distance of every query from every point (20 of them). -/
abbrev distOps : List (HloOp τ sig (Elt F)) :=
  [ binary main_arg0 main_arg0 main_v0 (mulf : (⟨S4x2048x3, .f32⟩ : BufTy).Contents (Elt F) → (⟨S4x2048x3, .f32⟩ : BufTy).Contents (Elt F) → (⟨S4x2048x3, .f32⟩ : BufTy).Contents (Elt F)),
    nullary main_cst (constant S_ .f32 0x00000000#32),
    binary main_v0 main_cst main_v1 ((fun x v => Host.reduceAdd x v reducesTo_S4x2048x3_S4x2048_d2 h_S_) : (⟨S4x2048x3, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    binary main_arg1 main_arg1 main_v3 (mulf : (⟨S4x8192x3, .f32⟩ : BufTy).Contents (Elt F) → (⟨S4x8192x3, .f32⟩ : BufTy).Contents (Elt F) → (⟨S4x8192x3, .f32⟩ : BufTy).Contents (Elt F)),
    nullary main_cst_0 (constant S_ .f32 0x00000000#32),
    binary main_v3 main_cst_0 main_v4 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    unary main_v4 main_v5 (broadcastInDim S4x1x8192 ![0, 2] bcast_S4x8192_S4x1x8192_0_2 : (⟨S4x8192, .f32⟩ : BufTy).Contents (Elt F) → (⟨S4x1x8192, .f32⟩ : BufTy).Contents (Elt F)),
    unary main_v2 main_v6 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    unary main_v5 main_v7 (broadcastInDim S4x2048x8192 ![0, 1, 2] bcast_S4x1x8192_S4x2048x8192_0_1_2 : (⟨S4x1x8192, .f32⟩ : BufTy).Contents (Elt F) → (⟨S4x2048x8192, .f32⟩ : BufTy).Contents (Elt F)),
    binary main_v6 main_v7 main_v8 (addf : (⟨S4x2048x8192, .f32⟩ : BufTy).Contents (Elt F) → (⟨S4x2048x8192, .f32⟩ : BufTy).Contents (Elt F) → (⟨S4x2048x8192, .f32⟩ : BufTy).Contents (Elt F)),
    binary main_arg0 main_arg1 main_v9 ((fun l r => Host.dotGeneral dot_S4x2048x3_S4x8192x3_S4x2048x8192_2_2_1_1_0_0 none l r) : (⟨S4x2048x3, .f32⟩ : BufTy).Contents (Elt F) → (⟨S4x8192x3, .f32⟩ : BufTy).Contents (Elt F) → (⟨S4x2048x8192, .f32⟩ : BufTy).Contents (Elt F)),
    nullary main_cst_1 (constant S_ .f32 0x40000000#32),
    unary main_cst_1 main_v10 (broadcastInDim S4x2048x8192 ![] bcast_S_S4x2048x8192 : (⟨S_, .f32⟩ : BufTy).Contents (Elt F) → (⟨S4x2048x8192, .f32⟩ : BufTy).Contents (Elt F)),
    binary main_v10 main_v9 main_v11 (mulf : (⟨S4x2048x8192, .f32⟩ : BufTy).Contents (Elt F) → (⟨S4x2048x8192, .f32⟩ : BufTy).Contents (Elt F) → (⟨S4x2048x8192, .f32⟩ : BufTy).Contents (Elt F)),
    binary main_v8 main_v11 main_v12 (subf : (⟨S4x2048x8192, .f32⟩ : BufTy).Contents (Elt F) → (⟨S4x2048x8192, .f32⟩ : BufTy).Contents (Elt F) → (⟨S4x2048x8192, .f32⟩ : BufTy).Contents (Elt F)),
    nullary main_cst_2 (constant S_ .f32 0x00000000#32),
    unary main_cst_2 main_v13 (broadcastInDim S4x2048x8192 ![] bcast_S_S4x2048x8192 : (⟨S_, .f32⟩ : BufTy).Contents (Elt F) → (⟨S4x2048x8192, .f32⟩ : BufTy).Contents (Elt F)),
    binary main_v12 main_v13 main_v14 (maximumf : (⟨S4x2048x8192, .f32⟩ : BufTy).Contents (Elt F) → (⟨S4x2048x8192, .f32⟩ : BufTy).Contents (Elt F) → (⟨S4x2048x8192, .f32⟩ : BufTy).Contents (Elt F)),
    unary main_v14 main_v15 (Host.sqrt : (⟨S4x2048x8192, .f32⟩ : BufTy).Contents (Elt F) → (⟨S4x2048x8192, .f32⟩ : BufTy).Contents (Elt F)) ]

/-- The operations that compute the sixteen nearest points of each query, and the nearest one (11 of them). -/
abbrev pickOps : List (HloOp τ sig (Elt F)) :=
  [ unary main_v15 main_v16 (Host.negf : (⟨S4x2048x8192, .f32⟩ : BufTy).Contents (Elt F) → (⟨S4x2048x8192, .f32⟩ : BufTy).Contents (Elt F)),
    unary main_v16 main_values ((fun x => (Host.topK S4x2048x16 2 (FloatOps.cmpfTotal .gt) x sliceFits_S4x2048x8192_S4x2048x16).1) : (⟨S4x2048x8192, .f32⟩ : BufTy).Contents (Elt F) → (⟨S4x2048x16, .f32⟩ : BufTy).Contents (Elt F)),
    unary main_v16 main_indices ((fun x => (Host.topK S4x2048x16 2 (FloatOps.cmpfTotal .gt) x sliceFits_S4x2048x8192_S4x2048x16).2) : (⟨S4x2048x8192, .f32⟩ : BufTy).Contents (Elt F) → (⟨S4x2048x16, .i32⟩ : BufTy).Contents (Elt F)),
    nullary main_cst_3 (constant S_ .f32 0x2B8CBCCC#32),
    unary main_cst_3 main_v17 (broadcastInDim S4x2048x8192 ![] bcast_S_S4x2048x8192 : (⟨S_, .f32⟩ : BufTy).Contents (Elt F) → (⟨S4x2048x8192, .f32⟩ : BufTy).Contents (Elt F)),
    binary main_v15 main_v17 main_v18 (addf : (⟨S4x2048x8192, .f32⟩ : BufTy).Contents (Elt F) → (⟨S4x2048x8192, .f32⟩ : BufTy).Contents (Elt F) → (⟨S4x2048x8192, .f32⟩ : BufTy).Contents (Elt F)),
    TRef.nullary main_call0.v0 (iotaInDim S4x2048x8192 32 2),
    TRef.nullary main_call0.cst (constant S_ .f32 0x7F800000#32),
    TRef.nullary main_call0.c (constantI S_ 32 0#32),
    TRef.quaternary (.of main_v18) main_call0.v0 main_call0.cst main_call0.c main_call0.v1_0 (fun x y u v j => (Host.argReduce reducer_argmin_f32_i32 x y u v reducesTo_S4x2048x8192_S4x2048_d2 h_S_ j).1),
    TRef.quaternary (.of main_v18) main_call0.v0 main_call0.cst main_call0.c main_call0.v1_1 (fun x y u v j => (Host.argReduce reducer_argmin_f32_i32 x y u v reducesTo_S4x2048x8192_S4x2048_d2 h_S_ j).2) ]

/-- The operations that compute the offsets of the chosen points and the increments of the field on them (33 of them). -/
abbrev gatherOps : List (HloOp τ sig (Elt F)) :=
  [ nullary main_c (constantI S_ 32 0#32),
    unary main_c main_v20 (broadcastInDim S4x2048x16 ![] bcast_S_S4x2048x16 : (⟨S_, .i32⟩ : BufTy).Contents (Elt F) → (⟨S4x2048x16, .i32⟩ : BufTy).Contents (Elt F)),
    binary main_indices main_v20 main_v21 (cmpi .slt : (⟨S4x2048x16, .i32⟩ : BufTy).Contents (Elt F) → (⟨S4x2048x16, .i32⟩ : BufTy).Contents (Elt F) → (⟨S4x2048x16, .i1⟩ : BufTy).Contents (Elt F)),
    nullary main_c_4 (constantI S_ 32 8192#32),
    unary main_c_4 main_v22 (broadcastInDim S4x2048x16 ![] bcast_S_S4x2048x16 : (⟨S_, .i32⟩ : BufTy).Contents (Elt F) → (⟨S4x2048x16, .i32⟩ : BufTy).Contents (Elt F)),
    binary main_indices main_v22 main_v23 (addi : (⟨S4x2048x16, .i32⟩ : BufTy).Contents (Elt F) → (⟨S4x2048x16, .i32⟩ : BufTy).Contents (Elt F) → (⟨S4x2048x16, .i32⟩ : BufTy).Contents (Elt F)),
    ternary main_v21 main_v23 main_indices main_v24 (select : (⟨S4x2048x16, .i1⟩ : BufTy).Contents (Elt F) → (⟨S4x2048x16, .i32⟩ : BufTy).Contents (Elt F) → (⟨S4x2048x16, .i32⟩ : BufTy).Contents (Elt F) → (⟨S4x2048x16, .i32⟩ : BufTy).Contents (Elt F)),
    unary main_v24 main_v25 (broadcastInDim S4x2048x16x1 ![0, 1, 2] bcast_S4x2048x16_S4x2048x16x1_0_1_2 : (⟨S4x2048x16, .i32⟩ : BufTy).Contents (Elt F) → (⟨S4x2048x16x1, .i32⟩ : BufTy).Contents (Elt F)),
    binary main_arg1 main_v25 main_v26 ((fun x i => Host.gather gather_S4x8192x3_S4x2048x16x1_S4x2048x16x3_3_1_0_0_1_3_113 x i) : (⟨S4x8192x3, .f32⟩ : BufTy).Contents (Elt F) → (⟨S4x2048x16x1, .i32⟩ : BufTy).Contents (Elt F) → (⟨S4x2048x16x3, .f32⟩ : BufTy).Contents (Elt F)),
    nullary main_c_5 (constantI S_ 32 0#32),
    unary main_c_5 main_v27 (broadcastInDim S4x2048x16 ![] bcast_S_S4x2048x16 : (⟨S_, .i32⟩ : BufTy).Contents (Elt F) → (⟨S4x2048x16, .i32⟩ : BufTy).Contents (Elt F)),
    binary main_indices main_v27 main_v28 (cmpi .slt : (⟨S4x2048x16, .i32⟩ : BufTy).Contents (Elt F) → (⟨S4x2048x16, .i32⟩ : BufTy).Contents (Elt F) → (⟨S4x2048x16, .i1⟩ : BufTy).Contents (Elt F)),
    nullary main_c_6 (constantI S_ 32 8192#32),
    unary main_c_6 main_v29 (broadcastInDim S4x2048x16 ![] bcast_S_S4x2048x16 : (⟨S_, .i32⟩ : BufTy).Contents (Elt F) → (⟨S4x2048x16, .i32⟩ : BufTy).Contents (Elt F)),
    binary main_indices main_v29 main_v30 (addi : (⟨S4x2048x16, .i32⟩ : BufTy).Contents (Elt F) → (⟨S4x2048x16, .i32⟩ : BufTy).Contents (Elt F) → (⟨S4x2048x16, .i32⟩ : BufTy).Contents (Elt F)),
    ternary main_v28 main_v30 main_indices main_v31 (select : (⟨S4x2048x16, .i1⟩ : BufTy).Contents (Elt F) → (⟨S4x2048x16, .i32⟩ : BufTy).Contents (Elt F) → (⟨S4x2048x16, .i32⟩ : BufTy).Contents (Elt F) → (⟨S4x2048x16, .i32⟩ : BufTy).Contents (Elt F)),
    unary main_v31 main_v32 (broadcastInDim S4x2048x16x1 ![0, 1, 2] bcast_S4x2048x16_S4x2048x16x1_0_1_2 : (⟨S4x2048x16, .i32⟩ : BufTy).Contents (Elt F) → (⟨S4x2048x16x1, .i32⟩ : BufTy).Contents (Elt F)),
    binary main_arg2 main_v32 main_v33 ((fun x i => Host.gather gather_S4x8192x3_S4x2048x16x1_S4x2048x16x3_3_1_0_0_1_3_113 x i) : (⟨S4x8192x3, .f32⟩ : BufTy).Contents (Elt F) → (⟨S4x2048x16x1, .i32⟩ : BufTy).Contents (Elt F) → (⟨S4x2048x16x3, .f32⟩ : BufTy).Contents (Elt F)),
    unary main_arg0 main_v34 (broadcastInDim S4x2048x1x3 ![0, 1, 3] bcast_S4x2048x3_S4x2048x1x3_0_1_3 : (⟨S4x2048x3, .f32⟩ : BufTy).Contents (Elt F) → (⟨S4x2048x1x3, .f32⟩ : BufTy).Contents (Elt F)),
    unary main_v34 main_v35 (broadcastInDim S4x2048x16x3 ![0, 1, 2, 3] bcast_S4x2048x1x3_S4x2048x16x3_0_1_2_3 : (⟨S4x2048x1x3, .f32⟩ : BufTy).Contents (Elt F) → (⟨S4x2048x16x3, .f32⟩ : BufTy).Contents (Elt F)),
    binary main_v26 main_v35 main_v36 (subf : (⟨S4x2048x16x3, .f32⟩ : BufTy).Contents (Elt F) → (⟨S4x2048x16x3, .f32⟩ : BufTy).Contents (Elt F) → (⟨S4x2048x16x3, .f32⟩ : BufTy).Contents (Elt F)),
    nullary main_c_7 (constantI S_ 32 0#32),
    unary main_c_7 main_v37 (broadcastInDim S4x2048 ![] bcast_S_S4x2048 : (⟨S_, .i32⟩ : BufTy).Contents (Elt F) → (⟨S4x2048, .i32⟩ : BufTy).Contents (Elt F)),
    binary main_v19 main_v37 main_v38 (cmpi .slt : (⟨S4x2048, .i32⟩ : BufTy).Contents (Elt F) → (⟨S4x2048, .i32⟩ : BufTy).Contents (Elt F) → (⟨S4x2048, .i1⟩ : BufTy).Contents (Elt F)),
    nullary main_c_8 (constantI S_ 32 8192#32),
    unary main_c_8 main_v39 (broadcastInDim S4x2048 ![] bcast_S_S4x2048 : (⟨S_, .i32⟩ : BufTy).Contents (Elt F) → (⟨S4x2048, .i32⟩ : BufTy).Contents (Elt F)),
    binary main_v19 main_v39 main_v40 (addi : (⟨S4x2048, .i32⟩ : BufTy).Contents (Elt F) → (⟨S4x2048, .i32⟩ : BufTy).Contents (Elt F) → (⟨S4x2048, .i32⟩ : BufTy).Contents (Elt F)),
    ternary main_v38 main_v40 main_v19 main_v41 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_v41 main_v42 (broadcastInDim S4x2048x1 ![0, 1] bcast_S4x2048_S4x2048x1_0_1 : (⟨S4x2048, .i32⟩ : BufTy).Contents (Elt F) → (⟨S4x2048x1, .i32⟩ : BufTy).Contents (Elt F)),
    binary main_arg2 main_v42 main_v43 ((fun x i => Host.gather gather_S4x8192x3_S4x2048x1_S4x2048x3_2_1_0_0_1_2_113 x i) : (⟨S4x8192x3, .f32⟩ : BufTy).Contents (Elt F) → (⟨S4x2048x1, .i32⟩ : BufTy).Contents (Elt F) → (⟨S4x2048x3, .f32⟩ : BufTy).Contents (Elt F)),
    unary main_v43 main_v44 (broadcastInDim S4x2048x1x3 ![0, 1, 3] bcast_S4x2048x3_S4x2048x1x3_0_1_3 : (⟨S4x2048x3, .f32⟩ : BufTy).Contents (Elt F) → (⟨S4x2048x1x3, .f32⟩ : BufTy).Contents (Elt F)),
    unary main_v44 main_v45 (broadcastInDim S4x2048x16x3 ![0, 1, 2, 3] bcast_S4x2048x1x3_S4x2048x16x3_0_1_2_3 : (⟨S4x2048x1x3, .f32⟩ : BufTy).Contents (Elt F) → (⟨S4x2048x16x3, .f32⟩ : BufTy).Contents (Elt F)),
    binary main_v33 main_v45 main_v46 (subf : (⟨S4x2048x16x3, .f32⟩ : BufTy).Contents (Elt F) → (⟨S4x2048x16x3, .f32⟩ : BufTy).Contents (Elt F) → (⟨S4x2048x16x3, .f32⟩ : BufTy).Contents (Elt F)) ]

/-- The operations that compute the two moment matrices, and the ridge added to the first (28 of them). -/
abbrev momentOps : List (HloOp τ sig (Elt F)) :=
  [ unary main_v36 main_v47 ((transpose S4x2048x3x16 [0, 1, 3, 2] · transposes_S4x2048x16x3_S4x2048x3x16_0_1_3_2) : (⟨S4x2048x16x3, .f32⟩ : BufTy).Contents (Elt F) → (⟨S4x2048x3x16, .f32⟩ : BufTy).Contents (Elt F)),
    binary main_v47 main_v36 main_v48 ((fun l r => Host.dotGeneral dot_S4x2048x3x16_S4x2048x16x3_S4x2048x3x3_3_2_2_3_01_01 none l r) : (⟨S4x2048x3x16, .f32⟩ : BufTy).Contents (Elt F) → (⟨S4x2048x16x3, .f32⟩ : BufTy).Contents (Elt F) → (⟨S4x2048x3x3, .f32⟩ : BufTy).Contents (Elt F)),
    binary main_v47 main_v46 main_v49 ((fun l r => Host.dotGeneral dot_S4x2048x3x16_S4x2048x16x3_S4x2048x3x3_3_2_2_3_01_01 none l r) : (⟨S4x2048x3x16, .f32⟩ : BufTy).Contents (Elt F) → (⟨S4x2048x16x3, .f32⟩ : BufTy).Contents (Elt F) → (⟨S4x2048x3x3, .f32⟩ : BufTy).Contents (Elt F)),
    nullary main_v50 (iotaInDim S3x3 32 0),
    nullary main_v51 (iotaInDim S3x3 32 1),
    nullary main_c_9 (constantI S_ 32 0#32),
    unary main_c_9 main_v52 (broadcastInDim S3x3 ![] bcast_S_S3x3 : (⟨S_, .i32⟩ : BufTy).Contents (Elt F) → (⟨S3x3, .i32⟩ : BufTy).Contents (Elt F)),
    binary main_v50 main_v52 main_v53 (addi : (⟨S3x3, .i32⟩ : BufTy).Contents (Elt F) → (⟨S3x3, .i32⟩ : BufTy).Contents (Elt F) → (⟨S3x3, .i32⟩ : BufTy).Contents (Elt F)),
    binary main_v53 main_v51 main_v54 (cmpi .eq : (⟨S3x3, .i32⟩ : BufTy).Contents (Elt F) → (⟨S3x3, .i32⟩ : BufTy).Contents (Elt F) → (⟨S3x3, .i1⟩ : BufTy).Contents (Elt F)),
    unary main_v54 main_v55 (uitofp .f32 : (⟨S3x3, .i1⟩ : BufTy).Contents (Elt F) → (⟨S3x3, .f32⟩ : BufTy).Contents (Elt F)),
    unary main_v55 main_v56 (broadcastInDim S1x1x3x3 ![2, 3] bcast_S3x3_S1x1x3x3_2_3 : (⟨S3x3, .f32⟩ : BufTy).Contents (Elt F) → (⟨S1x1x3x3, .f32⟩ : BufTy).Contents (Elt F)),
    unary main_v48 main_v57 (Host.absf : (⟨S4x2048x3x3, .f32⟩ : BufTy).Contents (Elt F) → (⟨S4x2048x3x3, .f32⟩ : BufTy).Contents (Elt F)),
    nullary main_cst_10 (constant S_ .f32 0x00000000#32),
    binary main_v57 main_cst_10 main_v58 ((fun x v => Host.reduceAdd x v reducesTo_S4x2048x3x3_S4x2048_d3_2 h_S_) : (⟨S4x2048x3x3, .f32⟩ : BufTy).Contents (Elt F) → (⟨S_, .f32⟩ : BufTy).Contents (Elt F) → (⟨S4x2048, .f32⟩ : BufTy).Contents (Elt F)),
    unary main_v58 main_v59 (broadcastInDim S4x2048x1x1 ![0, 1] bcast_S4x2048_S4x2048x1x1_0_1 : (⟨S4x2048, .f32⟩ : BufTy).Contents (Elt F) → (⟨S4x2048x1x1, .f32⟩ : BufTy).Contents (Elt F)),
    nullary main_cst_11 (constant S_ .f32 0x41100000#32),
    unary main_cst_11 main_v60 (broadcastInDim S4x2048x1x1 ![] bcast_S_S4x2048x1x1 : (⟨S_, .f32⟩ : BufTy).Contents (Elt F) → (⟨S4x2048x1x1, .f32⟩ : BufTy).Contents (Elt F)),
    binary main_v59 main_v60 main_v61 (Host.divf : (⟨S4x2048x1x1, .f32⟩ : BufTy).Contents (Elt F) → (⟨S4x2048x1x1, .f32⟩ : BufTy).Contents (Elt F) → (⟨S4x2048x1x1, .f32⟩ : BufTy).Contents (Elt F)),
    nullary main_cst_12 (constant S_ .f32 0x2B8CBCCC#32),
    unary main_cst_12 main_v62 (broadcastInDim S4x2048x1x1 ![] bcast_S_S4x2048x1x1 : (⟨S_, .f32⟩ : BufTy).Contents (Elt F) → (⟨S4x2048x1x1, .f32⟩ : BufTy).Contents (Elt F)),
    binary main_v61 main_v62 main_v63 (addf : (⟨S4x2048x1x1, .f32⟩ : BufTy).Contents (Elt F) → (⟨S4x2048x1x1, .f32⟩ : BufTy).Contents (Elt F) → (⟨S4x2048x1x1, .f32⟩ : BufTy).Contents (Elt F)),
    nullary main_cst_13 (constant S_ .f32 0x358637BD#32),
    unary main_cst_13 main_v64 (broadcastInDim S4x2048x1x1 ![] bcast_S_S4x2048x1x1 : (⟨S_, .f32⟩ : BufTy).Contents (Elt F) → (⟨S4x2048x1x1, .f32⟩ : BufTy).Contents (Elt F)),
    binary main_v64 main_v63 main_v65 (mulf : (⟨S4x2048x1x1, .f32⟩ : BufTy).Contents (Elt F) → (⟨S4x2048x1x1, .f32⟩ : BufTy).Contents (Elt F) → (⟨S4x2048x1x1, .f32⟩ : BufTy).Contents (Elt F)),
    unary main_v65 main_v66 (broadcastInDim S4x2048x3x3 ![0, 1, 2, 3] bcast_S4x2048x1x1_S4x2048x3x3_0_1_2_3 : (⟨S4x2048x1x1, .f32⟩ : BufTy).Contents (Elt F) → (⟨S4x2048x3x3, .f32⟩ : BufTy).Contents (Elt F)),
    unary main_v56 main_v67 (broadcastInDim S4x2048x3x3 ![0, 1, 2, 3] bcast_S1x1x3x3_S4x2048x3x3_0_1_2_3 : (⟨S1x1x3x3, .f32⟩ : BufTy).Contents (Elt F) → (⟨S4x2048x3x3, .f32⟩ : BufTy).Contents (Elt F)),
    binary main_v66 main_v67 main_v68 (mulf : (⟨S4x2048x3x3, .f32⟩ : BufTy).Contents (Elt F) → (⟨S4x2048x3x3, .f32⟩ : BufTy).Contents (Elt F) → (⟨S4x2048x3x3, .f32⟩ : BufTy).Contents (Elt F)),
    binary main_v48 main_v68 main_v69 (addf : (⟨S4x2048x3x3, .f32⟩ : BufTy).Contents (Elt F) → (⟨S4x2048x3x3, .f32⟩ : BufTy).Contents (Elt F) → (⟨S4x2048x3x3, .f32⟩ : BufTy).Contents (Elt F)) ]

/-- The operations that compute the elimination of the three by three system, right-hand sides as rows (61 of them). -/
abbrev elimOps : List (HloOp τ sig (Elt F)) :=
  [ unary main_v69 main_v70 ((extractStridedSlice S4x2048x1x1 ![0, 0, 0, 0] · slices_S4x2048x3x3_S4x2048x1x1_0_0_0_0) : (⟨S4x2048x3x3, .f32⟩ : BufTy).Contents (Elt F) → (⟨S4x2048x1x1, .f32⟩ : BufTy).Contents (Elt F)),
    reshape main_v70 main_v71 (rfl : (.f32 : EltTy) = .f32) shapeCasts_S4x2048x1x1_S4x2048x1,
    unary main_v69 main_v72 ((extractStridedSlice S4x2048x1x1 ![0, 0, 0, 1] · slices_S4x2048x3x3_S4x2048x1x1_0_0_0_1) : (⟨S4x2048x3x3, .f32⟩ : BufTy).Contents (Elt F) → (⟨S4x2048x1x1, .f32⟩ : BufTy).Contents (Elt F)),
    reshape main_v72 main_v73 (rfl : (.f32 : EltTy) = .f32) shapeCasts_S4x2048x1x1_S4x2048x1,
    unary main_v69 main_v74 ((extractStridedSlice S4x2048x1x1 ![0, 0, 0, 2] · slices_S4x2048x3x3_S4x2048x1x1_0_0_0_2) : (⟨S4x2048x3x3, .f32⟩ : BufTy).Contents (Elt F) → (⟨S4x2048x1x1, .f32⟩ : BufTy).Contents (Elt F)),
    reshape main_v74 main_v75 (rfl : (.f32 : EltTy) = .f32) shapeCasts_S4x2048x1x1_S4x2048x1,
    unary main_v69 main_v76 ((extractStridedSlice S4x2048x1x1 ![0, 0, 1, 0] · slices_S4x2048x3x3_S4x2048x1x1_0_0_1_0) : (⟨S4x2048x3x3, .f32⟩ : BufTy).Contents (Elt F) → (⟨S4x2048x1x1, .f32⟩ : BufTy).Contents (Elt F)),
    reshape main_v76 main_v77 (rfl : (.f32 : EltTy) = .f32) shapeCasts_S4x2048x1x1_S4x2048x1,
    unary main_v69 main_v78 ((extractStridedSlice S4x2048x1x1 ![0, 0, 1, 1] · slices_S4x2048x3x3_S4x2048x1x1_0_0_1_1) : (⟨S4x2048x3x3, .f32⟩ : BufTy).Contents (Elt F) → (⟨S4x2048x1x1, .f32⟩ : BufTy).Contents (Elt F)),
    reshape main_v78 main_v79 (rfl : (.f32 : EltTy) = .f32) shapeCasts_S4x2048x1x1_S4x2048x1,
    unary main_v69 main_v80 ((extractStridedSlice S4x2048x1x1 ![0, 0, 1, 2] · slices_S4x2048x3x3_S4x2048x1x1_0_0_1_2) : (⟨S4x2048x3x3, .f32⟩ : BufTy).Contents (Elt F) → (⟨S4x2048x1x1, .f32⟩ : BufTy).Contents (Elt F)),
    reshape main_v80 main_v81 (rfl : (.f32 : EltTy) = .f32) shapeCasts_S4x2048x1x1_S4x2048x1,
    unary main_v69 main_v82 ((extractStridedSlice S4x2048x1x1 ![0, 0, 2, 0] · slices_S4x2048x3x3_S4x2048x1x1_0_0_2_0) : (⟨S4x2048x3x3, .f32⟩ : BufTy).Contents (Elt F) → (⟨S4x2048x1x1, .f32⟩ : BufTy).Contents (Elt F)),
    reshape main_v82 main_v83 (rfl : (.f32 : EltTy) = .f32) shapeCasts_S4x2048x1x1_S4x2048x1,
    unary main_v69 main_v84 ((extractStridedSlice S4x2048x1x1 ![0, 0, 2, 1] · slices_S4x2048x3x3_S4x2048x1x1_0_0_2_1) : (⟨S4x2048x3x3, .f32⟩ : BufTy).Contents (Elt F) → (⟨S4x2048x1x1, .f32⟩ : BufTy).Contents (Elt F)),
    reshape main_v84 main_v85 (rfl : (.f32 : EltTy) = .f32) shapeCasts_S4x2048x1x1_S4x2048x1,
    unary main_v69 main_v86 ((extractStridedSlice S4x2048x1x1 ![0, 0, 2, 2] · slices_S4x2048x3x3_S4x2048x1x1_0_0_2_2) : (⟨S4x2048x3x3, .f32⟩ : BufTy).Contents (Elt F) → (⟨S4x2048x1x1, .f32⟩ : BufTy).Contents (Elt F)),
    reshape main_v86 main_v87 (rfl : (.f32 : EltTy) = .f32) shapeCasts_S4x2048x1x1_S4x2048x1,
    unary main_v49 main_v88 ((extractStridedSlice S4x2048x1x3 ![0, 0, 0, 0] · slices_S4x2048x3x3_S4x2048x1x3_0_0_0_0) : (⟨S4x2048x3x3, .f32⟩ : BufTy).Contents (Elt F) → (⟨S4x2048x1x3, .f32⟩ : BufTy).Contents (Elt F)),
    reshape main_v88 main_v89 (rfl : (.f32 : EltTy) = .f32) shapeCasts_S4x2048x1x3_S4x2048x3,
    unary main_v49 main_v90 ((extractStridedSlice S4x2048x1x3 ![0, 0, 1, 0] · slices_S4x2048x3x3_S4x2048x1x3_0_0_1_0) : (⟨S4x2048x3x3, .f32⟩ : BufTy).Contents (Elt F) → (⟨S4x2048x1x3, .f32⟩ : BufTy).Contents (Elt F)),
    reshape main_v90 main_v91 (rfl : (.f32 : EltTy) = .f32) shapeCasts_S4x2048x1x3_S4x2048x3,
    unary main_v49 main_v92 ((extractStridedSlice S4x2048x1x3 ![0, 0, 2, 0] · slices_S4x2048x3x3_S4x2048x1x3_0_0_2_0) : (⟨S4x2048x3x3, .f32⟩ : BufTy).Contents (Elt F) → (⟨S4x2048x1x3, .f32⟩ : BufTy).Contents (Elt F)),
    reshape main_v92 main_v93 (rfl : (.f32 : EltTy) = .f32) shapeCasts_S4x2048x1x3_S4x2048x3,
    binary main_v77 main_v71 main_v94 (Host.divf : (⟨S4x2048x1, .f32⟩ : BufTy).Contents (Elt F) → (⟨S4x2048x1, .f32⟩ : BufTy).Contents (Elt F) → (⟨S4x2048x1, .f32⟩ : BufTy).Contents (Elt F)),
    binary main_v83 main_v71 main_v95 (Host.divf : (⟨S4x2048x1, .f32⟩ : BufTy).Contents (Elt F) → (⟨S4x2048x1, .f32⟩ : BufTy).Contents (Elt F) → (⟨S4x2048x1, .f32⟩ : BufTy).Contents (Elt F)),
    binary main_v94 main_v73 main_v96 (mulf : (⟨S4x2048x1, .f32⟩ : BufTy).Contents (Elt F) → (⟨S4x2048x1, .f32⟩ : BufTy).Contents (Elt F) → (⟨S4x2048x1, .f32⟩ : BufTy).Contents (Elt F)),
    binary main_v79 main_v96 main_v97 (subf : (⟨S4x2048x1, .f32⟩ : BufTy).Contents (Elt F) → (⟨S4x2048x1, .f32⟩ : BufTy).Contents (Elt F) → (⟨S4x2048x1, .f32⟩ : BufTy).Contents (Elt F)),
    binary main_v94 main_v75 main_v98 (mulf : (⟨S4x2048x1, .f32⟩ : BufTy).Contents (Elt F) → (⟨S4x2048x1, .f32⟩ : BufTy).Contents (Elt F) → (⟨S4x2048x1, .f32⟩ : BufTy).Contents (Elt F)),
    binary main_v81 main_v98 main_v99 (subf : (⟨S4x2048x1, .f32⟩ : BufTy).Contents (Elt F) → (⟨S4x2048x1, .f32⟩ : BufTy).Contents (Elt F) → (⟨S4x2048x1, .f32⟩ : BufTy).Contents (Elt F)),
    unary main_v94 main_v100 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
    binary main_v100 main_v89 main_v101 (mulf : (⟨S4x2048x3, .f32⟩ : BufTy).Contents (Elt F) → (⟨S4x2048x3, .f32⟩ : BufTy).Contents (Elt F) → (⟨S4x2048x3, .f32⟩ : BufTy).Contents (Elt F)),
    binary main_v91 main_v101 main_v102 (subf : (⟨S4x2048x3, .f32⟩ : BufTy).Contents (Elt F) → (⟨S4x2048x3, .f32⟩ : BufTy).Contents (Elt F) → (⟨S4x2048x3, .f32⟩ : BufTy).Contents (Elt F)),
    binary main_v95 main_v73 main_v103 (mulf : (⟨S4x2048x1, .f32⟩ : BufTy).Contents (Elt F) → (⟨S4x2048x1, .f32⟩ : BufTy).Contents (Elt F) → (⟨S4x2048x1, .f32⟩ : BufTy).Contents (Elt F)),
    binary main_v85 main_v103 main_v104 (subf : (⟨S4x2048x1, .f32⟩ : BufTy).Contents (Elt F) → (⟨S4x2048x1, .f32⟩ : BufTy).Contents (Elt F) → (⟨S4x2048x1, .f32⟩ : BufTy).Contents (Elt F)),
    binary main_v95 main_v75 main_v105 (mulf : (⟨S4x2048x1, .f32⟩ : BufTy).Contents (Elt F) → (⟨S4x2048x1, .f32⟩ : BufTy).Contents (Elt F) → (⟨S4x2048x1, .f32⟩ : BufTy).Contents (Elt F)),
    binary main_v87 main_v105 main_v106 (subf : (⟨S4x2048x1, .f32⟩ : BufTy).Contents (Elt F) → (⟨S4x2048x1, .f32⟩ : BufTy).Contents (Elt F) → (⟨S4x2048x1, .f32⟩ : BufTy).Contents (Elt F)),
    unary main_v95 main_v107 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
    binary main_v107 main_v89 main_v108 (mulf : (⟨S4x2048x3, .f32⟩ : BufTy).Contents (Elt F) → (⟨S4x2048x3, .f32⟩ : BufTy).Contents (Elt F) → (⟨S4x2048x3, .f32⟩ : BufTy).Contents (Elt F)),
    binary main_v93 main_v108 main_v109 (subf : (⟨S4x2048x3, .f32⟩ : BufTy).Contents (Elt F) → (⟨S4x2048x3, .f32⟩ : BufTy).Contents (Elt F) → (⟨S4x2048x3, .f32⟩ : BufTy).Contents (Elt F)),
    binary main_v104 main_v97 main_v110 (Host.divf : (⟨S4x2048x1, .f32⟩ : BufTy).Contents (Elt F) → (⟨S4x2048x1, .f32⟩ : BufTy).Contents (Elt F) → (⟨S4x2048x1, .f32⟩ : BufTy).Contents (Elt F)),
    unary main_v110 main_v111 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
    binary main_v111 main_v102 main_v112 (mulf : (⟨S4x2048x3, .f32⟩ : BufTy).Contents (Elt F) → (⟨S4x2048x3, .f32⟩ : BufTy).Contents (Elt F) → (⟨S4x2048x3, .f32⟩ : BufTy).Contents (Elt F)),
    binary main_v109 main_v112 main_v113 (subf : (⟨S4x2048x3, .f32⟩ : BufTy).Contents (Elt F) → (⟨S4x2048x3, .f32⟩ : BufTy).Contents (Elt F) → (⟨S4x2048x3, .f32⟩ : BufTy).Contents (Elt F)),
    binary main_v110 main_v99 main_v114 (mulf : (⟨S4x2048x1, .f32⟩ : BufTy).Contents (Elt F) → (⟨S4x2048x1, .f32⟩ : BufTy).Contents (Elt F) → (⟨S4x2048x1, .f32⟩ : BufTy).Contents (Elt F)),
    binary main_v106 main_v114 main_v115 (subf : (⟨S4x2048x1, .f32⟩ : BufTy).Contents (Elt F) → (⟨S4x2048x1, .f32⟩ : BufTy).Contents (Elt F) → (⟨S4x2048x1, .f32⟩ : BufTy).Contents (Elt F)),
    unary main_v115 main_v116 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
    binary main_v113 main_v116 main_v117 (Host.divf : (⟨S4x2048x3, .f32⟩ : BufTy).Contents (Elt F) → (⟨S4x2048x3, .f32⟩ : BufTy).Contents (Elt F) → (⟨S4x2048x3, .f32⟩ : BufTy).Contents (Elt F)),
    unary main_v99 main_v118 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
    binary main_v118 main_v117 main_v119 (mulf : (⟨S4x2048x3, .f32⟩ : BufTy).Contents (Elt F) → (⟨S4x2048x3, .f32⟩ : BufTy).Contents (Elt F) → (⟨S4x2048x3, .f32⟩ : BufTy).Contents (Elt F)),
    binary main_v102 main_v119 main_v120 (subf : (⟨S4x2048x3, .f32⟩ : BufTy).Contents (Elt F) → (⟨S4x2048x3, .f32⟩ : BufTy).Contents (Elt F) → (⟨S4x2048x3, .f32⟩ : BufTy).Contents (Elt F)),
    unary main_v97 main_v121 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
    binary main_v120 main_v121 main_v122 (Host.divf : (⟨S4x2048x3, .f32⟩ : BufTy).Contents (Elt F) → (⟨S4x2048x3, .f32⟩ : BufTy).Contents (Elt F) → (⟨S4x2048x3, .f32⟩ : BufTy).Contents (Elt F)),
    unary main_v73 main_v123 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
    binary main_v123 main_v122 main_v124 (mulf : (⟨S4x2048x3, .f32⟩ : BufTy).Contents (Elt F) → (⟨S4x2048x3, .f32⟩ : BufTy).Contents (Elt F) → (⟨S4x2048x3, .f32⟩ : BufTy).Contents (Elt F)),
    binary main_v89 main_v124 main_v125 (subf : (⟨S4x2048x3, .f32⟩ : BufTy).Contents (Elt F) → (⟨S4x2048x3, .f32⟩ : BufTy).Contents (Elt F) → (⟨S4x2048x3, .f32⟩ : BufTy).Contents (Elt F)),
    unary main_v75 main_v126 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
    binary main_v126 main_v117 main_v127 (mulf : (⟨S4x2048x3, .f32⟩ : BufTy).Contents (Elt F) → (⟨S4x2048x3, .f32⟩ : BufTy).Contents (Elt F) → (⟨S4x2048x3, .f32⟩ : BufTy).Contents (Elt F)),
    binary main_v125 main_v127 main_v128 (subf : (⟨S4x2048x3, .f32⟩ : BufTy).Contents (Elt F) → (⟨S4x2048x3, .f32⟩ : BufTy).Contents (Elt F) → (⟨S4x2048x3, .f32⟩ : BufTy).Contents (Elt F)),
    unary main_v71 main_v129 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
    binary main_v128 main_v129 main_v130 (Host.divf : (⟨S4x2048x3, .f32⟩ : BufTy).Contents (Elt F) → (⟨S4x2048x3, .f32⟩ : BufTy).Contents (Elt F) → (⟨S4x2048x3, .f32⟩ : BufTy).Contents (Elt F)) ]

/-- The operations that compute the trace of the solution, squared and averaged (18 of them). -/
abbrev lossOps : List (HloOp τ sig (Elt F)) :=
  [ unary main_v130 main_v131 ((extractStridedSlice S4x2048x1 ![0, 0, 0] · slices_S4x2048x3_S4x2048x1_0_0_0) : (⟨S4x2048x3, .f32⟩ : BufTy).Contents (Elt F) → (⟨S4x2048x1, .f32⟩ : BufTy).Contents (Elt F)),
    reshape main_v131 main_v132 (rfl : (.f32 : EltTy) = .f32) shapeCasts_S4x2048x1_S4x2048,
    unary main_v122 main_v133 ((extractStridedSlice S4x2048x1 ![0, 0, 1] · slices_S4x2048x3_S4x2048x1_0_0_1) : (⟨S4x2048x3, .f32⟩ : BufTy).Contents (Elt F) → (⟨S4x2048x1, .f32⟩ : BufTy).Contents (Elt F)),
    reshape main_v133 main_v134 (rfl : (.f32 : EltTy) = .f32) shapeCasts_S4x2048x1_S4x2048,
    binary main_v132 main_v134 main_v135 (addf : (⟨S4x2048, .f32⟩ : BufTy).Contents (Elt F) → (⟨S4x2048, .f32⟩ : BufTy).Contents (Elt F) → (⟨S4x2048, .f32⟩ : BufTy).Contents (Elt F)),
    unary main_v117 main_v136 ((extractStridedSlice S4x2048x1 ![0, 0, 2] · slices_S4x2048x3_S4x2048x1_0_0_2) : (⟨S4x2048x3, .f32⟩ : BufTy).Contents (Elt F) → (⟨S4x2048x1, .f32⟩ : BufTy).Contents (Elt F)),
    reshape main_v136 main_v137 (rfl : (.f32 : EltTy) = .f32) shapeCasts_S4x2048x1_S4x2048,
    binary main_v135 main_v137 main_v138 (addf : (⟨S4x2048, .f32⟩ : BufTy).Contents (Elt F) → (⟨S4x2048, .f32⟩ : BufTy).Contents (Elt F) → (⟨S4x2048, .f32⟩ : BufTy).Contents (Elt F)),
    nullary main_cst_14 (constant S_ .f32 0x3F800000#32),
    unary main_cst_14 main_v139 (broadcastInDim S4x2048 ![] bcast_S_S4x2048 : (⟨S_, .f32⟩ : BufTy).Contents (Elt F) → (⟨S4x2048, .f32⟩ : BufTy).Contents (Elt F)),
    binary main_v139 main_v138 main_v140 (mulf : (⟨S4x2048, .f32⟩ : BufTy).Contents (Elt F) → (⟨S4x2048, .f32⟩ : BufTy).Contents (Elt F) → (⟨S4x2048, .f32⟩ : BufTy).Contents (Elt F)),
    binary main_v140 main_v138 main_v141 (mulf : (⟨S4x2048, .f32⟩ : BufTy).Contents (Elt F) → (⟨S4x2048, .f32⟩ : BufTy).Contents (Elt F) → (⟨S4x2048, .f32⟩ : BufTy).Contents (Elt F)),
    nullary main_cst_15 (constant S_ .f32 0x00000000#32),
    binary main_v141 main_cst_15 main_v142 ((fun x v => Host.reduceAdd x v reducesTo_S4x2048_S_d0_1 h_S_) : (⟨S4x2048, .f32⟩ : BufTy).Contents (Elt F) → (⟨S_, .f32⟩ : BufTy).Contents (Elt F) → (⟨S_, .f32⟩ : BufTy).Contents (Elt F)),
    nullary main_cst_16 (constant S_ .f32 0x46000000#32),
    binary main_v142 main_cst_16 main_v143 (Host.divf : (⟨S_, .f32⟩ : BufTy).Contents (Elt F) → (⟨S_, .f32⟩ : BufTy).Contents (Elt F) → (⟨S_, .f32⟩ : BufTy).Contents (Elt F)),
    nullary main_cst_17 (constant S_ .f32 0x3F800000#32),
    binary main_cst_17 main_v143 main_v144 (mulf : (⟨S_, .f32⟩ : BufTy).Contents (Elt F) → (⟨S_, .f32⟩ : BufTy).Contents (Elt F) → (⟨S_, .f32⟩ : BufTy).Contents (Elt F)) ]

/-- All the operations of the reference, in order. -/
abbrev ops : List (HloOp τ sig (Elt F)) :=
  distOps ++ (pickOps ++ (gatherOps ++ (momentOps ++ (elimOps ++ lossOps))))

set_option maxRecDepth 8192 in
set_option maxHeartbeats 4000000 in
/-- The reference's program is these operations in sequence. -/
theorem main_eq (c : Dev nD) : main (F := F) c = seq ops := rfl

/-- The reference has no buffer of a limited scope. -/
theorem no_scoped_bufs : (Finset.univ.filter fun b : Ref sig .tc => b.isScoped) = ∅ := by decide

/-- The reference has no counter of a limited scope. -/
theorem no_scoped_sems : (Finset.univ.filter fun sm : SemLoc sig => sm.isScoped .tc) = ∅ := by decide

set_option maxRecDepth 8192

/-- These operations touch only buffers of the device. -/
theorem distOps_sub : (distOps : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub ..⟩

/-- These operations touch only buffers of the device. -/
theorem pickOps_sub : (pickOps : List (HloOp τ sig (Elt F))).Forall fun op => op.bufs ⊆ tcRefs τ sig :=
  ⟨unary_bufs_sub .., unary_bufs_sub .., unary_bufs_sub .., nullary_bufs_sub .., unary_bufs_sub .., binary_bufs_sub .., nullary_bufs_sub .., nullary_bufs_sub .., nullary_bufs_sub .., quaternary_bufs_sub .., quaternary_bufs_sub ..⟩

/-- These operations touch only buffers of the device. -/
theorem gatherOps_sub : (gatherOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

/-- These operations touch only buffers of the device. -/
theorem momentOps_sub : (momentOps : List (HloOp τ sig (Elt F))).Forall fun op => op.bufs ⊆ tcRefs τ sig :=
  ⟨unary_bufs_sub .., binary_bufs_sub .., binary_bufs_sub .., nullary_bufs_sub .., nullary_bufs_sub .., nullary_bufs_sub .., unary_bufs_sub .., binary_bufs_sub .., binary_bufs_sub .., unary_bufs_sub .., unary_bufs_sub .., unary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub ..⟩

/-- These operations touch only buffers of the device. -/
theorem elimOps_sub : (elimOps : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., unary_bufs_sub .., binary_bufs_sub .., binary_bufs_sub .., binary_bufs_sub .., unary_bufs_sub .., binary_bufs_sub .., binary_bufs_sub .., binary_bufs_sub .., binary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub ..⟩

/-- These operations touch only buffers of the device. -/
theorem lossOps_sub : (lossOps : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub ..⟩

/-- All operations touch only buffers of the device. -/
theorem ops_sub : (ops : List (HloOp τ sig (Elt F))).Forall fun op => op.bufs ⊆ tcRefs τ sig := by
  simp only [List.forall_append]
  exact ⟨distOps_sub, pickOps_sub, gatherOps_sub, momentOps_sub, elimOps_sub, lossOps_sub⟩

/-- What the launch leaves in the buffers after all operations: the six groups one after the other. -/
theorem after_ops (V : Valuation τ sig (Elt F)) : after ops V
    = after lossOps (after elimOps (after momentOps (after gatherOps (after pickOps (after distOps V))))) := rfl

set_option maxHeartbeats 4000000 in
/-- From any memory with zero counters every execution of the reference ends, each buffer holding what the operations
leave there, and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b)
        = after ops (launchContents m c) (Proc.devRef .tc b)) ∧ r.2.sem = fun _ => 0 :=
  (θ_run defs _ _).mono (fun _ h => ⟨h, sem_eq_zero_of_no_sems rfl _⟩)
    (run_seq no_scoped_bufs no_scoped_sems defs main (fun _ => ops) main_eq (fun _ => ops_sub) m ρ)

end Cert.NearRef

end
-- ==== Proof.RefOps.lean ====
module

public import proofs.«01_k».proof.Proof.Gen.ReferenceIdeal
public import proofs.«01_k».proof.Proof.Rounds
public import proofs.«01_k».proof.Proof.Spec
public import Idealize.ShloMosaic.Lib.Pointwise

/-!
# What the reference's selecting operations give at an index

The sixteen nearest points by a stable sort, the nearest point by a fold, the two gathers, and the sum over a matrix.
-/

@[expose] public section

noncomputable section

namespace Cert.NearRef

open Cert.ReferenceIdeal Cert.ReferenceIdeal.Gen Idealize.ShloMosaic Cert.Near

/-! ## The sixteen nearest -/

/-- Where a row of the operand holds the negatives of the real numbers `d`, the positions that `top_k` lists are the
positions of the least of `d`, the least first and the earlier one first where they are equal. -/
theorem topK_at (x : FVec Ideal S4x2048x8192 .f32) (d : Fin 8192 → ℝ) (b : Fin 4) (i : Fin 2048)
    (hx : ∀ n, x (ix3 b i n) = ((-(d n) : ℝ) : EReal)) (k : Fin 16) :
    (Host.topK S4x2048x16 2 (FloatOps.cmpfTotal .gt) x sliceFits_S4x2048x8192_S4x2048x16).2 (ix3 b i k)
      = BitVec.ofNat 32 (choice d k).val := by
  have hB : ∀ n n' : Fin 8192,
      (FloatOps.cmpfTotal .gt (x (ix3 b i n)) (x (ix3 b i n')) == 1#1) = decide (d n < d n') := by
    intro n n'
    have e : (((-(d n') : ℝ) : EReal) < ((-(d n) : ℝ) : EReal)) ↔ d n < d n' := by
      rw [EReal.coe_lt_coe_iff, neg_lt_neg_iff]
    rw [hx, hx, Bool.eq_iff_iff, beq_iff_eq, decide_eq_true_iff]
    show BitVec.ofBool (decide (((-(d n') : ℝ) : EReal) < ((-(d n) : ℝ) : EReal))) = 1#1 ↔ _
    by_cases h : d n < d n'
    · rw [decide_eq_true (e.mpr h)]; exact iff_of_true rfl h
    · rw [decide_eq_false (mt e.mp h)]; exact iff_of_false (by decide) h
  have hal : ∀ n m : Fin 8192, (ix3 b i n : S4x2048x8192.Idx).along 2 m = ix3 b i m := by
    intro n m
    funext a
    match a with
    | ⟨0, _⟩ => rfl
    | ⟨1, _⟩ => rfl
    | ⟨2, _⟩ => rfl
  have hs := sortedFrom_eq_choice d (fun n n' => FloatOps.cmpfTotal .gt
      (x ((ix3 b i (k.castLE (by norm_num) : Fin 8192) : S4x2048x8192.Idx).along 2 n))
      (x ((ix3 b i (k.castLE (by norm_num) : Fin 8192) : S4x2048x8192.Idx).along 2 n')) == 1#1)
    (fun n n' => by rw [hal, hal]; exact hB n n') (k := 16) (by norm_num) k
  have hio : ∀ (J : S4x2048x8192.Idx) (m : Fin (S4x2048x8192.size 2)),
      iotaInDim S4x2048x8192 32 2 (J.along 2 m) = BitVec.ofNat 32 m.val := by
    intro J m
    have e : J.along 2 m 2 = m := by unfold Shape.Idx.along; exact Function.update_self ..
    exact congrArg (fun p : Fin (S4x2048x8192.size 2) => BitVec.ofNat 32 p.val) e
  have hsl : ∀ z : IVec S4x2048x8192 32, extractStridedSlice S4x2048x16 (fun _ => 0) z
      sliceFits_S4x2048x8192_S4x2048x16 (ix3 b i k) = z (ix3 b i (k.castLE (by norm_num))) := by
    intro z
    refine congrArg z (funext fun a => Fin.ext ?_)
    match a with
    | ⟨0, _⟩ => exact Nat.zero_add _
    | ⟨1, _⟩ => exact Nat.zero_add _
    | ⟨2, _⟩ => exact Nat.zero_add _
  unfold Host.topK
  dsimp only
  rw [hsl]
  unfold Host.sort2
  rw [dif_pos (by decide)]
  dsimp only
  rw [← hs, dif_pos (by decide)]
  exact hio _ _

/-! ## The nearest -/

/-- The order in which the fold for the nearest keeps a pair: the lesser value, and of equal values the lesser position. -/
def Before (p q : EReal × BitVec 32) : Prop := p.1 < q.1 ∨ (p.1 = q.1 ∧ p.2.toInt ≤ q.2.toInt)

theorem Before.refl (p : EReal × BitVec 32) : Before p p := Or.inr ⟨rfl, le_refl _⟩

theorem Before.trans (p q r : EReal × BitVec 32) (h : Before p q) (h' : Before q r) : Before p r := by
  rcases h with h | ⟨h, hl⟩ <;> rcases h' with h' | ⟨h', hl'⟩
  · exact Or.inl (h.trans h')
  · exact Or.inl (h' ▸ h)
  · exact Or.inl (h ▸ h')
  · exact Or.inr ⟨h.trans h', hl.trans hl'⟩

/-- The fold's step keeps one of its two pairs, and one that is before both. -/
theorem reducer_spec (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨x, a⟩ := p
  obtain ⟨y, b⟩ := q
  have e : reducer_argmin_f32_i32 (F := Ideal) (x, a) (y, b)
      = (if x < y then x else y, if x < y ∨ (x = y ∧ a.toInt < b.toInt) then a else b) := by
    show (Scalar.select (IntOp.ori (Ideal.cmp .olt x y) (Ideal.cmp .une x x)) x y,
      Scalar.select (IntOp.ori (IntOp.ori (Ideal.cmp .olt x y) (Ideal.cmp .une x x))
        (IntOp.andi (Ideal.cmp .oeq x y) (IntOp.cmpi .slt a b))) a b) = _
    have c1 : Ideal.cmp .olt x y = BitVec.ofBool (decide (x < y)) := rfl
    have c2 : Ideal.cmp .oeq x y = BitVec.ofBool (decide (x = y)) := rfl
    have c3 : Ideal.cmp .une x x = 0#1 := by
      show BitVec.ofBool (decide (x ≠ x)) = _
      rw [decide_eq_false (fun h => h rfl)]; rfl
    have c4 : IntOp.cmpi .slt a b = BitVec.ofBool (decide (a.toInt < b.toInt)) := rfl
    rw [c1, c2, c3, c4]
    by_cases h1 : x < y <;> by_cases h2 : x = y <;> by_cases h3 : a.toInt < b.toInt <;>
      simp only [h1, h2, h3, decide_true, decide_false, if_true, if_false, true_or, false_or, and_true, and_false,
        or_self, lt_irrefl] <;> rfl
  rw [e]
  by_cases h1 : x < y
  · simp only [h1, if_true, true_or]
    exact ⟨trivial, Before.refl _, Or.inl h1⟩
  · by_cases h2 : x = y
    · subst h2
      by_cases h3 : a.toInt < b.toInt
      · simp only [lt_irrefl, if_false, h3, and_self, or_true, if_true]
        exact ⟨Or.inl trivial, Before.refl _, Or.inr ⟨rfl, h3.le⟩⟩
      · simp only [lt_irrefl, if_false, h3, and_false, or_false]
        exact ⟨Or.inr trivial, Or.inr ⟨rfl, not_lt.mp h3⟩, Before.refl _⟩
    · simp only [h1, h2, if_false, false_and, or_false]
      exact ⟨Or.inr trivial, Or.inl (lt_of_le_of_ne (not_lt.mp h1) (Ne.symm h2)), Before.refl _⟩

/-- Where a row of the operand holds the real numbers `d` and the second operand the positions, the fold for the nearest
from `(+∞, 0)` gives the position of the least of `d`, the earliest such position. -/
theorem argmin_at (x : FVec Ideal S4x2048x8192 .f32) (y : IVec S4x2048x8192 32) (u : FVec Ideal S_ .f32) (v : IVec S_ 32)
    (d : Fin 8192 → ℝ) (b : Fin 4) (i : Fin 2048) (hx : ∀ n, x (ix3 b i n) = (d n : EReal))
    (hy : ∀ n, y (ix3 b i n) = BitVec.ofNat 32 n.val) (hu : ∀ j, u j = ⊤) (h : 0 < S_.numel) :
    (Host.argReduce reducer_argmin_f32_i32 x y u v reducesTo_S4x2048x8192_S4x2048_d2 h (ix2 b i)).2
      = BitVec.ofNat 32 (choice d 0).val := by
  rw [Ideal.argReduce_eq_reduce2, Host.reduce2_eq_foldl_fiber]
  have hm : ∀ p, p ∈ Host.argReduceFiber x y reducesTo_S4x2048x8192_S4x2048_d2 (ix2 b i)
      ↔ ∃ n : Fin 8192, p = ((d n : EReal), BitVec.ofNat 32 n.val) := by
    intro p
    unfold Host.argReduceFiber
    rw [List.mem_map]
    constructor
    · rintro ⟨n, hn, rfl⟩
      have hd := of_decide_eq_true (List.mem_filter.mp hn).2
      generalize S4x2048x8192.rowMajor.symm n = w at hd
      have e0 : w 0 = b := congrFun hd 0
      have e1 : w 1 = i := congrFun hd 1
      obtain ⟨n', rfl⟩ : ∃ n' : Fin 8192, w = ix3 b i n' := ⟨w 2, by rw [← e0, ← e1]; exact eq_ix3 w⟩
      exact ⟨n', by rw [hx, hy]⟩
    · rintro ⟨n, rfl⟩
      refine ⟨S4x2048x8192.rowMajor (ix3 b i n), List.mem_filter.mpr ⟨List.mem_finRange _, ?_⟩, ?_⟩
      · rw [Equiv.symm_apply_apply]
        refine decide_eq_true ?_
        funext a
        match a with
        | ⟨0, _⟩ => rfl
        | ⟨1, _⟩ => rfl
      · rw [Equiv.symm_apply_apply, hx, hy]
  obtain ⟨h1, -, h3⟩ := foldl_least Before Before.refl Before.trans (reducer_argmin_f32_i32 (F := Ideal)) reducer_spec
    (Host.argReduceFiber x y reducesTo_S4x2048x8192_S4x2048_d2 (ix2 b i)) (u (Shape.Idx.first h), v (Shape.Idx.first h))
  set r := List.foldl (reducer_argmin_f32_i32 (F := Ideal)) (u (Shape.Idx.first h), v (Shape.Idx.first h))
    (Host.argReduceFiber x y reducesTo_S4x2048x8192_S4x2048_d2 (ix2 b i)) with hr
  have hmem : r ∈ Host.argReduceFiber x y reducesTo_S4x2048x8192_S4x2048_d2 (ix2 b i) := by
    rcases h1 with h1 | h1
    · have := h3 _ ((hm _).mpr ⟨0, rfl⟩)
      rw [h1, hu] at this
      rcases this with t | ⟨t, -⟩
      · exact absurd t not_top_lt
      · exact absurd t.symm (EReal.coe_ne_top _)
    · exact h1
  obtain ⟨n, hn⟩ := (hm r).mp hmem
  have hle : ∀ p, Le d n p := by
    intro p
    have := h3 _ ((hm _).mpr ⟨p, rfl⟩)
    rw [hn] at this
    rcases this with t | ⟨t, t'⟩
    · exact Or.inl (EReal.coe_lt_coe_iff.mp t)
    · refine Or.inr ⟨EReal.coe_eq_coe_iff.mp t, ?_⟩
      rw [toInt_ofNat_small (by omega), toInt_ofNat_small (by omega)] at t'
      exact Fin.le_def.mpr (by exact_mod_cast t')
  rw [hn, (hle _).antisymm (choice_le d (k := 0) (by norm_num) (by simp [taken]))]

/-! ## Gathers -/

/-- A gather of sixteen rows for each query reads the row whose number the index holds. -/
theorem gather16_at (x : FVec Ideal S4x8192x3 .f32) (idx : IVec S4x2048x16x1 32) (b : Fin 4) (i : Fin 2048) (k : Fin 16)
    (a : Fin 3) (n : Fin 8192) (hn : idx (ix4 b i k 0) = BitVec.ofNat 32 n.val) :
    Host.gather gather_S4x8192x3_S4x2048x16x1_S4x2048x16x3_3_1_0_0_1_3_113 x idx (ix4 b i k a) = x (ix3 b n a) := by
  unfold Host.gather
  refine congrArg x (funext fun c => Fin.ext ?_)
  have hs : gather_S4x8192x3_S4x2048x16x1_S4x2048x16x3_3_1_0_0_1_3_113.siIdx (ix4 b i k a) ⟨0, by decide⟩ = ix4 b i k 0 := by
    funext e
    match e with
    | ⟨0, _⟩ => rfl
    | ⟨1, _⟩ => rfl
    | ⟨2, _⟩ => rfl
    | ⟨3, _⟩ => rfl
  match c with
  | ⟨0, _⟩ => exact Nat.zero_add _
  | ⟨1, _⟩ =>
    show min (idx (gather_S4x8192x3_S4x2048x16x1_S4x2048x16x3_3_1_0_0_1_3_113.siIdx (ix4 b i k a) ⟨0, _⟩)).toInt.toNat 8191
      + 0 + 0 = n.val
    rw [hs, hn, toInt_ofNat_small (by omega)]
    have := n.isLt
    omega
  | ⟨2, _⟩ => exact Nat.zero_add _

/-- A gather of one row for each query reads the row whose number the index holds. -/
theorem gather1_at (x : FVec Ideal S4x8192x3 .f32) (idx : IVec S4x2048x1 32) (b : Fin 4) (i : Fin 2048)
    (a : Fin 3) (n : Fin 8192) (hn : idx (ix3 b i 0) = BitVec.ofNat 32 n.val) :
    Host.gather gather_S4x8192x3_S4x2048x1_S4x2048x3_2_1_0_0_1_2_113 x idx (ix3 b i a) = x (ix3 b n a) := by
  unfold Host.gather
  refine congrArg x (funext fun c => Fin.ext ?_)
  have hs : gather_S4x8192x3_S4x2048x1_S4x2048x3_2_1_0_0_1_2_113.siIdx (ix3 b i a) ⟨0, by decide⟩ = ix3 b i 0 := by
    funext e
    match e with
    | ⟨0, _⟩ => rfl
    | ⟨1, _⟩ => rfl
    | ⟨2, _⟩ => rfl
  match c with
  | ⟨0, _⟩ => exact Nat.zero_add _
  | ⟨1, _⟩ =>
    show min (idx (gather_S4x8192x3_S4x2048x1_S4x2048x3_2_1_0_0_1_2_113.siIdx (ix3 b i a) ⟨0, _⟩)).toInt.toNat 8191
      + 0 + 0 = n.val
    rw [hs, hn, toInt_ofNat_small (by omega)]
    have := n.isLt
    omega
  | ⟨2, _⟩ => exact Nat.zero_add _

/-- The word of a position in the array is not negative, so a negative-index correction leaves it as it is. -/
theorem select_nonneg (n : Fin 8192) (w : BitVec 32) :
    Scalar.select (IntOp.cmpi .slt (BitVec.ofNat 32 n.val) 0#32) w (BitVec.ofNat 32 n.val) = BitVec.ofNat 32 n.val := by
  have h : IntOp.cmpi .slt (BitVec.ofNat 32 n.val) 0#32 = 0#1 := by
    have : ¬ (BitVec.ofNat 32 n.val).toInt < (0#32 : BitVec 32).toInt := by
      rw [toInt_ofNat_small (by omega)]; simp
    simp only [IntOp.cmpi, BitVec.slt, this, decide_false]
    rfl
  rw [h]; rfl

/-! ## The sum over a matrix -/

/-- The reduction over the last two axes, named in either order, is the double sum over the matrix. -/
theorem sum_matrix_at (v : S4x2048x3x3.Idx → EReal) (b : Fin 4) (i : Fin 2048) :
    Ideal.hostReduceAdd reducesTo_S4x2048x3x3_S4x2048_d3_2 v 0 (ix2 b i) = ∑ p : Fin 3, ∑ q : Fin 3, v (ix4 b i p q) := by
  unfold Ideal.hostReduceAdd
  rw [zero_add]
  refine (Finset.sum_filter_eq_sum_of_fiber _ (fun k : Fin 3 × Fin 3 => ix4 b i k.1 k.2)
    (fun _ _ e => Prod.ext (congrFun e 2) (congrFun e 3)) (fun w => ?_) v).trans ?_
  · constructor
    · intro e
      have e0 : w 0 = b := congrFun e 0
      have e1 : w 1 = i := congrFun e 1
      exact ⟨(w 2, w 3), by rw [← e0, ← e1]; exact (eq_ix4 w).symm⟩
    · rintro ⟨k, rfl⟩
      funext a
      match a with
      | ⟨0, _⟩ => rfl
      | ⟨1, _⟩ => rfl
  · simp only [Fintype.sum_prod_type]

end Cert.NearRef

end
-- ==== Proof.RefVal.lean ====
module

public import proofs.«01_k».proof.Proof.RefRun
public import proofs.«01_k».proof.Proof.RefOps
public import proofs.«01_k».proof.Proof.Lin
public import Idealize.ShloMosaic.Lib.StableHlo.ReadAt

/-!
# The value of the reference

What each of the six groups of operations leaves, at an index and over the reals, and from these the reference's result:
where the arguments hold real numbers it is `Cert.Near.loss` of them.
-/

@[expose] public section

noncomputable section

namespace Cert.NearRef

open Cert.ReferenceIdeal Cert.ReferenceIdeal.Gen Idealize.ShloMosaic Idealize.ShloMosaic.TcCoe Idealize.SL.Sem
open Idealize.ShloMosaic.StableHlo Cert.Near

variable (W : Valuation τ sig (Elt Ideal))

/-! ## Distances -/

/-- The distances. -/
theorem dist_at (Q : Fin 4 → Fin 2048 → Fin 3 → ℝ) (R : Fin 4 → Fin 8192 → Fin 3 → ℝ)
    (hQ : ∀ b i a, W (Proc.devRef .tc main_arg0) (ix3 b i a) = (Q b i a : EReal))
    (hR : ∀ b n a, W (Proc.devRef .tc main_arg1) (ix3 b n a) = (R b n a : EReal))
    (b : Fin 4) (i : Fin 2048) (n : Fin 8192) :
    after distOps W (Proc.devRef .tc main_v15) (ix3 b i n) = (Near.dist (Q b i) (R b n) : EReal) := by
  after_reads_at
  simp only [hQ, hR, ← EReal.coe_mul, sum_coe, ofBits_two, ← EReal.coe_add, ← EReal.coe_sub, max_zero_coe]
  exact sqrt_coe (le_max_right _ _)

/-! ## The chosen points -/

/-- Adding a constant to every distance does not change the nearest point. -/
theorem choice_shift (d : Fin 8192 → ℝ) (t : ℝ) : choice (fun n => d n + t) 0 = choice d 0 := by
  have h := choice_le d (k := 0) (by norm_num) (p := choice (fun n => d n + t) 0) (by simp [taken])
  have h' := choice_le (fun n => d n + t) (k := 0) (by norm_num) (p := choice d 0) (by simp [taken])
  refine Le.antisymm (d := d) ?_ h
  rcases h' with h' | ⟨h', hl⟩
  · exact Or.inl (by linarith)
  · exact Or.inr ⟨by linarith, hl⟩

/-- The positions of the sixteen nearest points. -/
theorem indices_at (d : Fin 8192 → ℝ) (b : Fin 4) (i : Fin 2048)
    (hd : ∀ n, W (Proc.devRef .tc main_v15) (ix3 b i n) = (d n : EReal)) (k : Fin 16) :
    after pickOps W (Proc.devRef .tc main_indices) (ix3 b i k) = BitVec.ofNat 32 (choice d k).val := by
  after_reads_simp
  refine topK_at _ d b i (fun n => ?_) k
  exact (congrArg (fun z : EReal => -z) (hd n)).trans (EReal.coe_neg _).symm

/-- The position of the nearest point. -/
theorem nearest_at (d : Fin 8192 → ℝ) (b : Fin 4) (i : Fin 2048)
    (hd : ∀ n, W (Proc.devRef .tc main_v15) (ix3 b i n) = (d n : EReal)) :
    after pickOps W (Proc.devRef .tc main_v19) (ix2 b i) = BitVec.ofNat 32 (choice d 0).val := by
  after_reads_simp
  simp -implicitDefEqProofs only [TRef.toBuf, TRef.ofBuf, cast_cast, cast_eq]
  rw [← choice_shift d eps]
  refine argmin_at _ _ _ _ (fun n => d n + eps) b i (fun n => ?_) (fun n => ?_) (fun j => ?_) h_S_
  · pointwise
    exact (congrArg₂ (fun y z : EReal => y + z) (hd n) ofBits_eps).trans (EReal.coe_add _ _).symm
  · pointwise
  · pointwise
    exact ofBits_inf

/-! ## The gathered values -/

/-- The offsets of the chosen points from the query. -/
theorem offsets_at (Q : Fin 4 → Fin 2048 → Fin 3 → ℝ) (R : Fin 4 → Fin 8192 → Fin 3 → ℝ)
    (hQ : ∀ b i a, W (Proc.devRef .tc main_arg0) (ix3 b i a) = (Q b i a : EReal))
    (hR : ∀ b n a, W (Proc.devRef .tc main_arg1) (ix3 b n a) = (R b n a : EReal))
    (b : Fin 4) (i : Fin 2048) (k : Fin 16) (n : Fin 8192)
    (hn : W (Proc.devRef .tc main_indices) (ix3 b i k) = BitVec.ofNat 32 n.val) (a : Fin 3) :
    after gatherOps W (Proc.devRef .tc main_v36) (ix4 b i k a) = ((R b n a - Q b i a : ℝ) : EReal) := by
  after_reads_at
  rw [gather16_at _ _ b i k a n, hR, hQ, EReal.coe_sub]
  pointwise
  rw [hn]
  exact select_nonneg n _

/-- The increments of the field from the nearest point to the chosen points. -/
theorem increments_at (U : Fin 4 → Fin 8192 → Fin 3 → ℝ)
    (hU : ∀ b n a, W (Proc.devRef .tc main_arg2) (ix3 b n a) = (U b n a : EReal))
    (b : Fin 4) (i : Fin 2048) (k : Fin 16) (n n₀ : Fin 8192)
    (hn : W (Proc.devRef .tc main_indices) (ix3 b i k) = BitVec.ofNat 32 n.val)
    (hn₀ : W (Proc.devRef .tc main_v19) (ix2 b i) = BitVec.ofNat 32 n₀.val) (c : Fin 3) :
    after gatherOps W (Proc.devRef .tc main_v46) (ix4 b i k c) = ((U b n c - U b n₀ c : ℝ) : EReal) := by
  after_reads_at
  rw [gather16_at _ _ b i k c n, gather1_at _ _ b i c n₀, hU, hU, EReal.coe_sub]
  · pointwise
    rw [hn₀]
    exact select_nonneg n₀ _
  · pointwise
    rw [hn]
    exact select_nonneg n _

/-! ## The moments -/

section

variable (b : Fin 4) (i : Fin 2048) (D E : Fin 16 → Fin 3 → ℝ)

/-- The moments of the offsets with the increments. -/
theorem moments_at (hD : ∀ k a, W (Proc.devRef .tc main_v36) (ix4 b i k a) = (D k a : EReal))
    (hE : ∀ k a, W (Proc.devRef .tc main_v46) (ix4 b i k a) = (E k a : EReal)) (a c : Fin 3) :
    after momentOps W (Proc.devRef .tc main_v49) (ix4 b i a c) = ((∑ k, D k a * E k c : ℝ) : EReal) := by
  after_reads_at
  simp only [hD, hE, ← EReal.coe_mul, sum_coe]

/-- The identity matrix, made by comparing row and column. -/
theorem eye_at (a c : Fin 3) :
    (FloatOps.uitofp .f32 (IntOp.cmpi .eq (IntOp.addi (BitVec.ofNat 32 a.val) 0#32) (BitVec.ofNat 32 c.val)) : Ideal .f32)
      = ((if a = c then 1 else 0 : ℝ) : EReal) := by
  have h : IntOp.cmpi .eq (IntOp.addi (BitVec.ofNat 32 a.val) 0#32) (BitVec.ofNat 32 c.val) = if a = c then 1#1 else 0#1 := by
    revert a c; decide
  rw [h]
  show (((if a = c then 1#1 else 0#1 : BitVec 1).toNat : ℝ) : EReal) = _
  by_cases e : a = c <;> simp [e]

/-- The second moments of the offsets, with the ridge on the diagonal. -/
theorem ridged_at (hD : ∀ k a, W (Proc.devRef .tc main_v36) (ix4 b i k a) = (D k a : EReal)) (a c : Fin 3) :
    after momentOps W (Proc.devRef .tc main_v69) (ix4 b i a c)
      = ((∑ k, D k a * D k c + ridge * ((∑ p, ∑ q, |∑ k, D k p * D k q|) / 9 + eps) * (if a = c then 1 else 0) : ℝ) : EReal) := by
  after_reads_at
  rw [sum_matrix_at, eye_at]
  pointwise
  simp only [hD, ← EReal.coe_mul, sum_coe, Ideal.absf_def, abs_coe, ofBits_nine, ofBits_eps, ofBits_ridge,
    div_coe (show (9 : ℝ) ≠ 0 by norm_num), ← EReal.coe_add]

end

/-! ## The elimination -/

/-- Where the system is symmetric with nonzero leading minors, the elimination leaves real numbers on the solution's
diagonal, and their sum is the contraction of the adjugate with the right-hand sides, over the determinant. -/
theorem solved_at (b : Fin 4) (i : Fin 2048) (a00 a01 a02 a11 a12 a22 : ℝ) (y : Fin 3 → Fin 3 → ℝ)
    (k00 : W (Proc.devRef .tc main_v69) (ix4 b i 0 0) = (a00 : EReal))
    (k01 : W (Proc.devRef .tc main_v69) (ix4 b i 0 1) = (a01 : EReal))
    (k02 : W (Proc.devRef .tc main_v69) (ix4 b i 0 2) = (a02 : EReal))
    (k10 : W (Proc.devRef .tc main_v69) (ix4 b i 1 0) = (a01 : EReal))
    (k11 : W (Proc.devRef .tc main_v69) (ix4 b i 1 1) = (a11 : EReal))
    (k12 : W (Proc.devRef .tc main_v69) (ix4 b i 1 2) = (a12 : EReal))
    (k20 : W (Proc.devRef .tc main_v69) (ix4 b i 2 0) = (a02 : EReal))
    (k21 : W (Proc.devRef .tc main_v69) (ix4 b i 2 1) = (a12 : EReal))
    (k22 : W (Proc.devRef .tc main_v69) (ix4 b i 2 2) = (a22 : EReal))
    (hy : ∀ a c, W (Proc.devRef .tc main_v49) (ix4 b i a c) = (y a c : EReal))
    (h1 : a00 ≠ 0) (h2 : a00 * a11 - a01 * a01 ≠ 0) (h3 : det3 a00 a01 a02 a11 a12 a22 ≠ 0) :
    ∃ x0 x1 x2 : ℝ, after elimOps W (Proc.devRef .tc main_v130) (ix3 b i 0) = (x0 : EReal)
      ∧ after elimOps W (Proc.devRef .tc main_v122) (ix3 b i 1) = (x1 : EReal)
      ∧ after elimOps W (Proc.devRef .tc main_v117) (ix3 b i 2) = (x2 : EReal)
      ∧ x0 + x1 + x2 = adjTrace a00 a01 a02 a11 a12 a22 y / det3 a00 a01 a02 a11 a12 a22 := by
  obtain ⟨l1, e1⟩ : ∃ t, t = a01 / a00 := ⟨_, rfl⟩
  obtain ⟨l2, e2⟩ : ∃ t, t = a02 / a00 := ⟨_, rfl⟩
  obtain ⟨b11, e3⟩ : ∃ t, t = a11 - l1 * a01 := ⟨_, rfl⟩
  obtain ⟨b12, e4⟩ : ∃ t, t = a12 - l1 * a02 := ⟨_, rfl⟩
  obtain ⟨z10, e5⟩ : ∃ t, t = y 1 0 - l1 * y 0 0 := ⟨_, rfl⟩
  obtain ⟨z11, e6⟩ : ∃ t, t = y 1 1 - l1 * y 0 1 := ⟨_, rfl⟩
  obtain ⟨z12, e7⟩ : ∃ t, t = y 1 2 - l1 * y 0 2 := ⟨_, rfl⟩
  obtain ⟨b21, e8⟩ : ∃ t, t = a12 - l2 * a01 := ⟨_, rfl⟩
  obtain ⟨b22, e9⟩ : ∃ t, t = a22 - l2 * a02 := ⟨_, rfl⟩
  obtain ⟨z20, e10⟩ : ∃ t, t = y 2 0 - l2 * y 0 0 := ⟨_, rfl⟩
  obtain ⟨z21, e11⟩ : ∃ t, t = y 2 1 - l2 * y 0 1 := ⟨_, rfl⟩
  obtain ⟨z22, e12⟩ : ∃ t, t = y 2 2 - l2 * y 0 2 := ⟨_, rfl⟩
  obtain ⟨l3, e13⟩ : ∃ t, t = b21 / b11 := ⟨_, rfl⟩
  obtain ⟨p, e14⟩ : ∃ t, t = b22 - l3 * b12 := ⟨_, rfl⟩
  obtain ⟨x20, e15⟩ : ∃ t, t = (z20 - l3 * z10) / p := ⟨_, rfl⟩
  obtain ⟨x21, e16⟩ : ∃ t, t = (z21 - l3 * z11) / p := ⟨_, rfl⟩
  obtain ⟨x22, e17⟩ : ∃ t, t = (z22 - l3 * z12) / p := ⟨_, rfl⟩
  obtain ⟨x10, e18⟩ : ∃ t, t = (z10 - b12 * x20) / b11 := ⟨_, rfl⟩
  obtain ⟨x11, e19⟩ : ∃ t, t = (z11 - b12 * x21) / b11 := ⟨_, rfl⟩
  obtain ⟨x00, e20⟩ : ∃ t, t = (y 0 0 - a01 * x10 - a02 * x20) / a00 := ⟨_, rfl⟩
  obtain ⟨hb, hp, ht⟩ := elimination_trace a00 a01 a02 a11 a12 a22 (y 0 0) (y 0 1) (y 0 2) (y 1 0) (y 1 1) (y 1 2)
    (y 2 0) (y 2 1) (y 2 2) h1 h2 h3 l1 l2 b11 b12 b21 b22 l3 p z10 z11 z12 z20 z21 z22 x20 x21 x22 x10 x11 x00
    e1 e2 e3 e4 e5 e6 e7 e8 e9 e10 e11 e12 e13 e14 e15 e16 e17 e18 e19 e20
  refine ⟨x00, x11, x22, ?_, ?_, ?_, ht⟩
  · after_reads_at
    simp only [k00, k01, k02, k10, k11, k12, k20, k21, k22, hy, div_coe h1, div_coe hb, div_coe hp, ← EReal.coe_mul,
      ← EReal.coe_sub, ← e1, ← e2, ← e3, ← e4, ← e5, ← e8, ← e9, ← e10, ← e13, ← e14, ← e15, ← e18, ← e20]
  · after_reads_at
    simp only [k00, k01, k02, k10, k11, k12, k20, k21, k22, hy, div_coe h1, div_coe hb, div_coe hp, ← EReal.coe_mul,
      ← EReal.coe_sub, ← e1, ← e2, ← e3, ← e4, ← e6, ← e8, ← e9, ← e11, ← e13, ← e14, ← e16, ← e19]
  · after_reads_at
    simp only [k00, k01, k02, k10, k11, k12, k20, k21, k22, hy, div_coe h1, div_coe hb, div_coe hp, ← EReal.coe_mul,
      ← EReal.coe_sub, ← e1, ← e2, ← e3, ← e4, ← e7, ← e8, ← e9, ← e12, ← e13, ← e14, ← e17]

/-! ## The mean -/

/-- The mean of the squares of the traces. -/
theorem mean_at (x0 x1 x2 : Fin 4 → Fin 2048 → ℝ)
    (h0 : ∀ b i, W (Proc.devRef .tc main_v130) (ix3 b i 0) = (x0 b i : EReal))
    (h1 : ∀ b i, W (Proc.devRef .tc main_v122) (ix3 b i 1) = (x1 b i : EReal))
    (h2 : ∀ b i, W (Proc.devRef .tc main_v117) (ix3 b i 2) = (x2 b i : EReal)) :
    after lossOps W (Proc.devRef .tc main_v144)
      = fun _ => (((∑ b, ∑ i, (x0 b i + x1 b i + x2 b i) * (x0 b i + x1 b i + x2 b i)) / 8192 : ℝ) : EReal) := by
  funext j
  after_reads_at
  simp only [h0, h1, h2, ← EReal.coe_add, ← EReal.coe_mul, sum_coe, ofBits_8192, div_coe (show (8192 : ℝ) ≠ 0 by norm_num)]

/-! ## All groups together -/

/-- The arguments are in their buffers before and after each group. -/
theorem keep (r : Ref sig .tc) (hr : r = main_arg0 ∨ r = main_arg1 ∨ r = main_arg2) :
    after distOps W (Proc.devRef .tc r) = W (Proc.devRef .tc r)
      ∧ after pickOps W (Proc.devRef .tc r) = W (Proc.devRef .tc r)
      ∧ after gatherOps W (Proc.devRef .tc r) = W (Proc.devRef .tc r)
      ∧ after momentOps W (Proc.devRef .tc r) = W (Proc.devRef .tc r)
      ∧ after elimOps W (Proc.devRef .tc r) = W (Proc.devRef .tc r)
      ∧ after lossOps W (Proc.devRef .tc r) = W (Proc.devRef .tc r) := by
  rcases hr with rfl | rfl | rfl <;> refine ⟨?_, ?_, ?_, ?_, ?_, ?_⟩ <;> after_reads_simp

/-- No operation changes an argument. -/
theorem keep_all (r : Ref sig .tc) (hr : r = main_arg0 ∨ r = main_arg1 ∨ r = main_arg2) :
    after ops W (Proc.devRef .tc r) = W (Proc.devRef .tc r) := by
  rw [after_ops, (keep _ r hr).2.2.2.2.2, (keep _ r hr).2.2.2.2.1, (keep _ r hr).2.2.2.1, (keep _ r hr).2.2.1,
    (keep _ r hr).2.1, (keep _ r hr).1]

/-- The reference's result: where the arguments hold the real numbers `Q`, `R` and `U`, it is `loss Q R U`. -/
theorem result_eq (Q : Fin 4 → Fin 2048 → Fin 3 → ℝ) (R U : Fin 4 → Fin 8192 → Fin 3 → ℝ)
    (hQ : ∀ b i a, W (Proc.devRef .tc main_arg0) (ix3 b i a) = (Q b i a : EReal))
    (hR : ∀ b n a, W (Proc.devRef .tc main_arg1) (ix3 b n a) = (R b n a : EReal))
    (hU : ∀ b n a, W (Proc.devRef .tc main_arg2) (ix3 b n a) = (U b n a : EReal)) :
    after ops W (Proc.devRef .tc main_v144) = fun _ => ((loss Q R U : ℝ) : EReal) := by
  rw [after_ops]
  set W1 := after distOps W with hW1
  set W2 := after pickOps W1 with hW2
  set W3 := after gatherOps W2 with hW3
  set W4 := after momentOps W3 with hW4
  have g0 : W2 (Proc.devRef .tc main_arg0) = W (Proc.devRef .tc main_arg0) := by
    rw [hW2, (keep _ _ (Or.inl rfl)).2.1, hW1, (keep _ _ (Or.inl rfl)).1]
  have g1 : W2 (Proc.devRef .tc main_arg1) = W (Proc.devRef .tc main_arg1) := by
    rw [hW2, (keep _ _ (Or.inr (Or.inl rfl))).2.1, hW1, (keep _ _ (Or.inr (Or.inl rfl))).1]
  have g2 : W2 (Proc.devRef .tc main_arg2) = W (Proc.devRef .tc main_arg2) := by
    rw [hW2, (keep _ _ (Or.inr (Or.inr rfl))).2.1, hW1, (keep _ _ (Or.inr (Or.inr rfl))).1]
  have d1 : ∀ b i n, W1 (Proc.devRef .tc main_v15) (ix3 b i n) = ((dists (Q b i) (R b) n : ℝ) : EReal) :=
    fun b i n => dist_at W Q R hQ hR b i n
  have i2 : ∀ b i (k : Fin 16), W2 (Proc.devRef .tc main_indices) (ix3 b i k) = BitVec.ofNat 32 (near (Q b i) (R b) k).val :=
    fun b i k => indices_at W1 (dists (Q b i) (R b)) b i (d1 b i) k
  have n2 : ∀ b i, W2 (Proc.devRef .tc main_v19) (ix2 b i) = BitVec.ofNat 32 (near (Q b i) (R b) 0).val :=
    fun b i => nearest_at W1 (dists (Q b i) (R b)) b i (d1 b i)
  have o3 : ∀ b i (k : Fin 16) a, W3 (Proc.devRef .tc main_v36) (ix4 b i k a)
      = ((R b (near (Q b i) (R b) k) a - Q b i a : ℝ) : EReal) :=
    fun b i k a => offsets_at W2 Q R (fun b i a => by rw [g0, hQ]) (fun b n a => by rw [g1, hR]) b i k _ (i2 b i k) a
  have u3 : ∀ b i (k : Fin 16) c, W3 (Proc.devRef .tc main_v46) (ix4 b i k c)
      = ((U b (near (Q b i) (R b) k) c - U b (near (Q b i) (R b) 0) c : ℝ) : EReal) :=
    fun b i k c => increments_at W2 U (fun b n a => by rw [g2, hU]) b i k _ _ (i2 b i k) (n2 b i) c
  have y4 : ∀ b i a c, W4 (Proc.devRef .tc main_v49) (ix4 b i a c) = ((Y (Q b i) (R b) (U b) a c : ℝ) : EReal) :=
    fun b i a c => moments_at W3 b i _ _ (o3 b i) (u3 b i) a c
  have a4 : ∀ b i a c, W4 (Proc.devRef .tc main_v69) (ix4 b i a c)
      = ((X (Q b i) (R b) a c + shift (Q b i) (R b) * (if a = c then 1 else 0) : ℝ) : EReal) :=
    fun b i a c => ridged_at W3 b i _ (o3 b i) a c
  have diag : ∀ b i a, W4 (Proc.devRef .tc main_v69) (ix4 b i a a)
      = ((X (Q b i) (R b) a a + shift (Q b i) (R b) : ℝ) : EReal) := fun b i a => by
    rw [a4, if_pos rfl, mul_one]
  have off : ∀ b i a c, a ≠ c → W4 (Proc.devRef .tc main_v69) (ix4 b i a c)
      = ((X (Q b i) (R b) a c : ℝ) : EReal) := fun b i a c h => by
    rw [a4, if_neg h, mul_zero, add_zero]
  have sol := fun b i => solved_at W4 b i _ _ _ _ _ _ _ (diag b i 0) (off b i 0 1 (by decide)) (off b i 0 2 (by decide))
    (by rw [off b i 1 0 (by decide), X_symm]) (diag b i 1) (off b i 1 2 (by decide))
    (by rw [off b i 2 0 (by decide), X_symm]) (by rw [off b i 2 1 (by decide), X_symm]) (diag b i 2) (y4 b i)
    (minors (Q b i) (R b)).1.ne' (minors (Q b i) (R b)).2.1.ne' (minors (Q b i) (R b)).2.2.ne'
  choose x0 x1 x2 hx0 hx1 hx2 hx using sol
  rw [mean_at _ x0 x1 x2 hx0 hx1 hx2]
  simp only [hx]
  rfl

end Cert.NearRef

end
-- ==== Proof.Finite.lean ====
/-
  What the precondition says at the extended reals: every argument's every element is a real number.
-/
module

public import proofs.«01_k».proof.Defs
public import proofs.«01_k».proof.Proof.Spec
public import Idealize.ShloMosaic.Lib.StableHlo.ReadAt

@[expose] public section

noncomputable section

namespace Cert.Near

open Idealize.ShloMosaic

/-- The side conditions the precondition's operations take. -/
theorem finite_facts : Cert.Pre_finite.Facts := ⟨by decide, by decide⟩

/-- An extended real whose absolute value lies below infinity is a real. -/
theorem real_of_abs_lt (z : EReal) (h : (FloatOps.cmpf .olt (FloatOps.absf (z : Ideal .f32)) (Ideal.ofBits .f32 0x7F800000#32)) = 1#1) :
    ∃ r : ℝ, z = (r : EReal) := by
  rw [ofBits_inf] at h
  induction z using EReal.rec with
  | coe r => exact ⟨r, rfl⟩
  | top => exact absurd h (by simp [FloatOps.cmpf, FloatOps.absf, Ideal.cmp])
  | bot => exact absurd h (by simp [FloatOps.cmpf, FloatOps.absf, Ideal.cmp])

attribute [local instance] finite_facts

/-- Where the precondition holds of three arrays, each is an array of real numbers. -/
theorem reals_of_finite (x : FVec Ideal Cert.Pre_finite.S4x2048x3 .f32) (y z : FVec Ideal Cert.Pre_finite.S4x8192x3 .f32)
    (h : (Cert.Pre_finite.fn x y z).1 = (fun _ => 1#1) ∧ (Cert.Pre_finite.fn x y z).2.1 = (fun _ => 1#1)
      ∧ (Cert.Pre_finite.fn x y z).2.2 = (fun _ => 1#1)) :
    (∃ Q : Fin 4 → Fin 2048 → Fin 3 → ℝ, ∀ b i a, x (ix3 b i a) = (Q b i a : EReal))
    ∧ (∃ R : Fin 4 → Fin 8192 → Fin 3 → ℝ, ∀ b i a, y (ix3 b i a) = (R b i a : EReal))
    ∧ (∃ U : Fin 4 → Fin 8192 → Fin 3 → ℝ, ∀ b i a, z (ix3 b i a) = (U b i a : EReal)) := by
  refine ⟨?_, ?_, ?_⟩
  · choose f hf using fun b i a => real_of_abs_lt (x (ix3 b i a)) (congrFun h.1 (ix3 b i a))
    exact ⟨f, hf⟩
  · choose f hf using fun b i a => real_of_abs_lt (y (ix3 b i a)) (congrFun h.2.1 (ix3 b i a))
    exact ⟨f, hf⟩
  · choose f hf using fun b i a => real_of_abs_lt (z (ix3 b i a)) (congrFun h.2.2 (ix3 b i a))
    exact ⟨f, hf⟩

end Cert.Near

end
-- ==== Proof.lean ====
/-
  The proof of `Cert.Claim`: the three programs' frames, and the equality of the idealized kernel's result with the
  idealized reference's. Where the arguments are real, either result is `Cert.Near.loss` of them.
-/
module

public import proofs.«01_k».proof.Defs
public import proofs.«01_k».proof.Proof.Gen.Kernel
public import proofs.«01_k».proof.Proof.Gen.Kernel.Frame
public import proofs.«01_k».proof.Proof.KerRun
public import proofs.«01_k».proof.Proof.RefVal
public import proofs.«01_k».proof.Proof.Finite

@[expose] public section

noncomputable section

namespace Cert.Proof

open Idealize.ShloMosaic Idealize.ShloMosaic.TcCoe Idealize.ShloMosaic.StableHlo Idealize.SL.Sem

attribute [local instance] Cert.Kernel.Gen.facts Cert.KernelIdeal.Gen.facts Cert.ReferenceIdeal.Gen.facts
  Cert.Near.finite_facts

/-- The idealized reference leaves its arguments and its counters as they were. -/
theorem reference_frame : Cert.quiescent_ReferenceIdeal := fun m g _ =>
  (θ_run Cert.ReferenceIdeal.defs _ _).mono
    (fun _ h => ⟨fun c => ⟨(h.1 c Cert.ReferenceIdeal.main_arg0).trans (NearRef.keep_all _ _ (Or.inl rfl)),
      (h.1 c Cert.ReferenceIdeal.main_arg1).trans (NearRef.keep_all _ _ (Or.inr (Or.inl rfl))),
      (h.1 c Cert.ReferenceIdeal.main_arg2).trans (NearRef.keep_all _ _ (Or.inr (Or.inr rfl)))⟩, h.2⟩)
    (NearRef.run m g)

/-- From finite arguments, the idealized kernel's result is the idealized reference's. -/
theorem results_agree : Cert.algebraic_KernelIdeal_ReferenceIdeal_pre_finite := fun m g m' g' hpre hagree => by
  have reals := fun c => Near.reals_of_finite _ _ _ (hpre c)
  choose Q hQ using fun c => (reals c).1
  choose R hR using fun c => (reals c).2.1
  choose U hU using fun c => (reals c).2.2
  refine ⟨fun c => fun _ => ((Near.loss (Q c) (R c) (U c) : ℝ) : EReal), Near.run m g Q R U hQ hR hU, ?_⟩
  refine (θ_run Cert.ReferenceIdeal.defs _ _).mono (fun _ h c => ⟨?_, ?_, ?_, ?_⟩) (NearRef.run m' g')
  · exact (h.1 c Cert.ReferenceIdeal.main_v144).trans (NearRef.result_eq _ (Q c) (R c) (U c)
      (fun b i a => (congrFun (hagree c).1 (ix3 b i a)).trans (hQ c b i a))
      (fun b i a => (congrFun (hagree c).2.1 (ix3 b i a)).trans (hR c b i a))
      (fun b i a => (congrFun (hagree c).2.2 (ix3 b i a)).trans (hU c b i a)))
  · exact (h.1 c Cert.ReferenceIdeal.main_arg0).trans (NearRef.keep_all _ _ (Or.inl rfl))
  · exact (h.1 c Cert.ReferenceIdeal.main_arg1).trans (NearRef.keep_all _ _ (Or.inr (Or.inl rfl)))
  · exact (h.1 c Cert.ReferenceIdeal.main_arg2).trans (NearRef.keep_all _ _ (Or.inr (Or.inr rfl)))

/-- Everything claimed. -/
theorem claim : Cert.Claim :=
  ⟨Cert.Kernel.Gen.facts, Cert.KernelIdeal.Gen.facts, Cert.ReferenceIdeal.Gen.facts, Cert.Near.finite_facts,
    fun m g _ => Cert.Kernel.Gen.frame m g, fun m g _ => Cert.KernelIdeal.Gen.frame m g,
    fun m g _ => Cert.KernelIdeal.Gen.frame m g, reference_frame, fun m g _ => reference_frame m g trivial, trivial,
    results_agree⟩

end Cert.Proof

end
